-- ==== Defs.lean ====
def Pre_Kernel [hPre_sorted_rows : Cert.Pre_sorted_rows.Facts] (m : (ℓ : Loc Cert.Kernel.nD Cert.Kernel.τ Cert.Kernel.sig) → Buf (Elt Bits) ℓ) : Prop :=
  ∀ c : Dev Cert.Kernel.nD,
    (Cert.Pre_sorted_rows.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))).1 = (fun _ => 1#1)
    ∧ (Cert.Pre_sorted_rows.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))).2.1 = (fun _ => 1#1)
    ∧ (Cert.Pre_sorted_rows.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))).2.2.1 = (fun _ => 1#1)
    ∧ (Cert.Pre_sorted_rows.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))).2.2.2 = (fun _ => 1#1)

def Pre_KernelIdeal [hPre_sorted_rows : Cert.Pre_sorted_rows.Facts] (m : (ℓ : Loc Cert.KernelIdeal.nD Cert.KernelIdeal.τ Cert.KernelIdeal.sig) → Buf (Elt Ideal) ℓ) : Prop :=
  ∀ c : Dev Cert.KernelIdeal.nD,
    (Cert.Pre_sorted_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_sorted_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_sorted_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.1 = (fun _ => 1#1)
    ∧ (Cert.Pre_sorted_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sorted_rows [hPre_sorted_rows : Cert.Pre_sorted_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sorted_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_sorted_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_sorted_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2.1 = (fun _ => 1#1)
    ∧ (Cert.Pre_sorted_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2.2 = (fun _ => 1#1)

def quiescent_Kernel [hKernel : Cert.Kernel.Facts] [hPre_sorted_rows : Cert.Pre_sorted_rows.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_sorted_rows : Cert.Pre_sorted_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_sorted_rows [hReferenceIdeal : Cert.ReferenceIdeal.Facts] [hPre_sorted_rows : Cert.Pre_sorted_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sorted_rows m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_sorted_rows : Cert.Pre_sorted_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_v31) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_sorted_rows : Cert.Pre_sorted_rows.Facts),
    quiescent_Kernel (hKernel := hKernel) (hPre_sorted_rows := hPre_sorted_rows)
    ∧ quiescent_KernelIdeal (hKernelIdeal := hKernelIdeal) (hPre_sorted_rows := hPre_sorted_rows)
    ∧ quiescent_ReferenceIdeal (hReferenceIdeal := hReferenceIdeal)
    ∧ quiescent_ReferenceIdeal_pre_sorted_rows (hReferenceIdeal := hReferenceIdeal) (hPre_sorted_rows := hPre_sorted_rows)
    ∧ preserves_Kernel_KernelIdeal
    ∧ algebraic_KernelIdeal_ReferenceIdeal (hKernelIdeal := hKernelIdeal) (hReferenceIdeal := hReferenceIdeal) (hPre_sorted_rows := hPre_sorted_rows)
-- ==== Pre_sorted_rows.lean ====
abbrev S16x4096x512 : Shape := ⟨3, ![16, 4096, 512]⟩
abbrev S16x4096 : Shape := ⟨2, ![16, 4096]⟩
abbrev S_ : Shape := ⟨0, ![]⟩
abbrev S16x4095 : Shape := ⟨2, ![16, 4095]⟩
abbrev S16x1 : Shape := ⟨2, ![16, 1]⟩
abbrev S16 : Shape := ⟨1, ![16]⟩

class Facts : Prop where
  bcast_S_S16x4096 : S_.BroadcastsInDim S16x4096 (![] : Fin 0 → Fin S16x4096.rank)
  slices_S16x4096_S16x4095_0_0 : S16x4096.Slices ![0, 0] S16x4095
  slices_S16x4096_S16x4095_0_1 : S16x4096.Slices ![0, 1] S16x4095
  slices_S16x4096_S16x1_0_0 : S16x4096.Slices ![0, 0] S16x1
  shapeCasts_S16x1_S16 : S16x1.ShapeCasts S16
  slices_S16x4096_S16x1_0_1 : S16x4096.Slices ![0, 1] S16x1

variable [Facts]

def fn_where {F : FTy → Type} [FloatOps F] (arg0 : IVec S16x4096 1) (arg1 : IVec S_ 32) (arg2 : IVec S16x4096 32) : IVec S16x4096 32 :=
  let v0 : IVec S_ 32 := id arg1
  let v1 : IVec S16x4096 32 := broadcastInDim S16x4096 ![] bcast_S_S16x4096 v0
  let v2 : IVec S16x4096 32 := select arg0 v1 arg2
  v2

def fn {F : FTy → Type} [FloatOps F] (main_arg0 : FVec F S16x4096x512 .f32) (main_arg1 : IVec S16x4096 32) (main_arg2 : IVec S16x4096 1) : IVec S16x4096 1 × IVec S16x4096 1 × IVec S16x4095 1 × IVec S16 1 :=
  let main_c : IVec S_ 32 := constantI S_ 32 512#32
  let main_v0 : IVec S16x4096 32 := fn_where (F := F) main_arg2 main_c main_arg1
  let main_c_0 : IVec S_ 32 := constantI S_ 32 0#32
  let main_v1 : IVec S16x4096 32 := broadcastInDim S16x4096 ![] bcast_S_S16x4096 main_c_0
  let main_v2 : IVec S16x4096 1 := cmpi .sge main_v0 main_v1
  let main_c_1 : IVec S_ 32 := constantI S_ 32 512#32
  let main_v3 : IVec S16x4096 32 := broadcastInDim S16x4096 ![] bcast_S_S16x4096 main_c_1
  let main_v4 : IVec S16x4096 1 := cmpi .sle main_v0 main_v3
  let main_v5 : IVec S16x4095 32 := (extractStridedSlice S16x4095 ![0, 0] · slices_S16x4096_S16x4095_0_0) main_v0
  let main_v6 : IVec S16x4095 32 := (extractStridedSlice S16x4095 ![0, 1] · slices_S16x4096_S16x4095_0_1) main_v0
  let main_v7 : IVec S16x4095 1 := cmpi .sle main_v5 main_v6
  let main_v8 : IVec S16x1 32 := (extractStridedSlice S16x1 ![0, 0] · slices_S16x4096_S16x1_0_0) main_v0
  let main_v9 : IVec S16 32 := shapeCast S16 main_v8 shapeCasts_S16x1_S16
  let main_v10 : IVec S16x1 32 := (extractStridedSlice S16x1 ![0, 1] · slices_S16x4096_S16x1_0_1) main_v0
  let main_v11 : IVec S16 32 := shapeCast S16 main_v10 shapeCasts_S16x1_S16
  let main_v12 : IVec S16 1 := cmpi .eq main_v9 main_v11
  (main_v2, main_v4, main_v7, main_v12)
-- ==== Kernel.lean ====
abbrev S16x4096x512 : Shape := ⟨3, ![16, 4096, 512]⟩
abbrev S16x4096 : Shape := ⟨2, ![16, 4096]⟩
abbrev S_ : Shape := ⟨0, ![]⟩
abbrev S16x1x4096 : Shape := ⟨3, ![16, 1, 4096]⟩
abbrev S16x512x512 : Shape := ⟨3, ![16, 512, 512]⟩
abbrev S16x1x512 : Shape := ⟨3, ![16, 1, 512]⟩
abbrev S1x1x4096 : Shape := ⟨3, ![1, 1, 4096]⟩
abbrev S1x4096x512 : Shape := ⟨3, ![1, 4096, 512]⟩
abbrev S1x512x512 : Shape := ⟨3, ![1, 512, 512]⟩
abbrev S1x1x512 : Shape := ⟨3, ![1, 1, 512]⟩
abbrev S4096 : Shape := ⟨1, ![4096]⟩
abbrev S4096x1 : Shape := ⟨2, ![4096, 1]⟩
abbrev S4096x512 : Shape := ⟨2, ![4096, 512]⟩
abbrev S512x512 : Shape := ⟨2, ![512, 512]⟩
abbrev S8x4096 : Shape := ⟨2, ![8, 4096]⟩
abbrev S8x512 : Shape := ⟨2, ![8, 512]⟩
abbrev S1x512 : Shape := ⟨2, ![1, 512]⟩
abbrev S512 : Shape := ⟨1, ![512]⟩
abbrev S512x1 : Shape := ⟨2, ![512, 1]⟩
abbrev S16x512 : Shape := ⟨2, ![16, 512]⟩
abbrev S256 : Shape := ⟨1, ![256]⟩
abbrev S1x4096 : Shape := ⟨2, ![1, 4096]⟩
abbrev S16 : Shape := ⟨1, ![16]⟩
abbrev S1x256 : Shape := ⟨2, ![1, 256]⟩

abbrev nBuf : Table → Nat
  | .hbm => 14
  | .local .tc .vmem => 8
  | .local .scVector .vmem => 2
  | _ => 0

abbrev bufTy : (tb : Table) → Fin (nBuf tb) → BufTy
  | .hbm, ⟨0, _⟩ => ⟨S16x4096x512, .f32⟩
  | .hbm, ⟨1, _⟩ => ⟨S16x4096, .i32⟩
  | .hbm, ⟨2, _⟩ => ⟨S16x4096, .i1⟩
  | .hbm, ⟨3, _⟩ => ⟨S_, .i32⟩
  | .hbm, ⟨4, _⟩ => ⟨S_, .i32⟩
  | .hbm, ⟨5, _⟩ => ⟨S16x4096, .i32⟩
  | .hbm, ⟨6, _⟩ => ⟨S16x4096, .i32⟩
  | .hbm, ⟨7, _⟩ => ⟨S16x1x4096, .i32⟩
  | .hbm, ⟨8, _⟩ => ⟨S16x512x512, .f32⟩
  | .hbm, ⟨9, _⟩ => ⟨S16x1x512, .f32⟩
  | .hbm, ⟨10, _⟩ => ⟨S16x512, .i32⟩
  | .hbm, ⟨11, _⟩ => ⟨S_, .i32⟩
  | .hbm, ⟨12, _⟩ => ⟨S16x512, .i32⟩
  | .hbm, ⟨13, _⟩ => ⟨S16x512, .i1⟩
  | .local .tc .vmem, ⟨0, _⟩ => ⟨S1x1x4096, .i32⟩
  | .local .tc .vmem, ⟨1, _⟩ => ⟨S1x1x4096, .i32⟩
  | .local .tc .vmem, ⟨2, _⟩ => ⟨S1x4096x512, .f32⟩
  | .local .tc .vmem, ⟨3, _⟩ => ⟨S1x4096x512, .f32⟩
  | .local .tc .vmem, ⟨4, _⟩ => ⟨S1x512x512, .f32⟩
  | .local .tc .vmem, ⟨5, _⟩ => ⟨S1x512x512, .f32⟩
  | .local .tc .vmem, ⟨6, _⟩ => ⟨S1x1x512, .f32⟩
  | .local .tc .vmem, ⟨7, _⟩ => ⟨S1x1x512, .f32⟩
  | .local .scVector .vmem, ⟨0, _⟩ => ⟨S4096, .i32⟩
  | .local .scVector .vmem, ⟨1, _⟩ => ⟨S256, .i32⟩
  | _, _ => ⟨S16x4096x512, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => false
  | ⟨9, _⟩ => false
  | _ => false

abbrev sig : RefSig :=
  ofTables nBuf rfl bufTy 4 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_call0_v1 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v0_scv : Ref sig .scVector := ⟨.hbm, 6, rfl⟩
abbrev main_v3_scv : Ref sig .scVector := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_scratch0 : Ref sig .scVector := ⟨.vmem, 0, rfl⟩
abbrev cc1_scratch1 : Ref sig .scVector := ⟨.vmem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x4096 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![2, 16], ![false, false]⟩

def k1_off1 (i : grid1.Coords) : Fin 2 → Nat :=
  let arg1 : BitVec 32 := BitVec.ofNat 32 (i 1).val
  let c0_i32_2_r0 : BitVec 32 := 0#32
  ![arg1.toNat, 0]
@[reducible] def k1_t1_loop : Scf.Loop 32 :=
  let c0_i32_0 : BitVec 32 := 0#32
  let c16_i32 : BitVec 32 := 16#32
  let v2 : BitVec 32 := Scalar.addi c0_i32_0 c16_i32
  let c1_i32 : BitVec 32 := 1#32
  ⟨c0_i32_0, v2, c1_i32⟩

def k1_chk1 (v14 : IVec S16 32) : Prop :=
  (∀ a x, ((![v14] : Fin 1 → IVec S16 32) a x).toNat < S4096.size a)
theorem k1_idx1_inb : ∀ (v14 : IVec S16 32) (k1_hw1 : k1_chk1 v14), ∀ a x, ((![v14] : Fin 1 → IVec S16 32) a x).toNat < S4096.size a := fun v14 k1_hw1 => k1_hw1

def k1_chk2 (v23 : IVec S16 32) : Prop :=
  (∀ a x, ((![v23] : Fin 1 → IVec S16 32) a x).toNat < S4096.size a)
theorem k1_idx2_inb : ∀ (v23 : IVec S16 32) (k1_hw2 : k1_chk2 v23), ∀ a x, ((![v23] : Fin 1 → IVec S16 32) a x).toNat < S4096.size a := fun v23 k1_hw2 => k1_hw2

def k1_chk3 (v32 : IVec S16 32) : Prop :=
  (∀ a x, ((![v32] : Fin 1 → IVec S16 32) a x).toNat < S4096.size a)
theorem k1_idx3_inb : ∀ (v32 : IVec S16 32) (k1_hw3 : k1_chk3 v32), ∀ a x, ((![v32] : Fin 1 → IVec S16 32) a x).toNat < S4096.size a := fun v32 k1_hw3 => k1_hw3

def k1_chk4 (v41 : IVec S16 32) : Prop :=
  (∀ a x, ((![v41] : Fin 1 → IVec S16 32) a x).toNat < S4096.size a)
theorem k1_idx4_inb : ∀ (v41 : IVec S16 32) (k1_hw4 : k1_chk4 v41), ∀ a x, ((![v41] : Fin 1 → IVec S16 32) a x).toNat < S4096.size a := fun v41 k1_hw4 => k1_hw4

def k1_chk5 (v50 : IVec S16 32) : Prop :=
  (∀ a x, ((![v50] : Fin 1 → IVec S16 32) a x).toNat < S4096.size a)
theorem k1_idx5_inb : ∀ (v50 : IVec S16 32) (k1_hw5 : k1_chk5 v50), ∀ a x, ((![v50] : Fin 1 → IVec S16 32) a x).toNat < S4096.size a := fun v50 k1_hw5 => k1_hw5

def k1_chk6 (v59 : IVec S16 32) : Prop :=
  (∀ a x, ((![v59] : Fin 1 → IVec S16 32) a x).toNat < S4096.size a)
theorem k1_idx6_inb : ∀ (v59 : IVec S16 32) (k1_hw6 : k1_chk6 v59), ∀ a x, ((![v59] : Fin 1 → IVec S16 32) a x).toNat < S4096.size a := fun v59 k1_hw6 => k1_hw6

def k1_chk7 (v68 : IVec S16 32) : Prop :=
  (∀ a x, ((![v68] : Fin 1 → IVec S16 32) a x).toNat < S4096.size a)
theorem k1_idx7_inb : ∀ (v68 : IVec S16 32) (k1_hw7 : k1_chk7 v68), ∀ a x, ((![v68] : Fin 1 → IVec S16 32) a x).toNat < S4096.size a := fun v68 k1_hw7 => k1_hw7

def k1_chk8 (v77 : IVec S16 32) : Prop :=
  (∀ a x, ((![v77] : Fin 1 → IVec S16 32) a x).toNat < S4096.size a)
theorem k1_idx8_inb : ∀ (v77 : IVec S16 32) (k1_hw8 : k1_chk8 v77), ∀ a x, ((![v77] : Fin 1 → IVec S16 32) a x).toNat < S4096.size a := fun v77 k1_hw8 => k1_hw8

def k1_chk9 (v86 : IVec S16 32) : Prop :=
  (∀ a x, ((![v86] : Fin 1 → IVec S16 32) a x).toNat < S4096.size a)
theorem k1_idx9_inb : ∀ (v86 : IVec S16 32) (k1_hw9 : k1_chk9 v86), ∀ a x, ((![v86] : Fin 1 → IVec S16 32) a x).toNat < S4096.size a := fun v86 k1_hw9 => k1_hw9

def k1_chk10 (v95 : IVec S16 32) : Prop :=
  (∀ a x, ((![v95] : Fin 1 → IVec S16 32) a x).toNat < S4096.size a)
theorem k1_idx10_inb : ∀ (v95 : IVec S16 32) (k1_hw10 : k1_chk10 v95), ∀ a x, ((![v95] : Fin 1 → IVec S16 32) a x).toNat < S4096.size a := fun v95 k1_hw10 => k1_hw10

def k1_chk11 (v104 : IVec S16 32) : Prop :=
  (∀ a x, ((![v104] : Fin 1 → IVec S16 32) a x).toNat < S4096.size a)
theorem k1_idx11_inb : ∀ (v104 : IVec S16 32) (k1_hw11 : k1_chk11 v104), ∀ a x, ((![v104] : Fin 1 → IVec S16 32) a x).toNat < S4096.size a := fun v104 k1_hw11 => k1_hw11

def k1_chk12 (v113 : IVec S16 32) : Prop :=
  (∀ a x, ((![v113] : Fin 1 → IVec S16 32) a x).toNat < S4096.size a)
theorem k1_idx12_inb : ∀ (v113 : IVec S16 32) (k1_hw12 : k1_chk12 v113), ∀ a x, ((![v113] : Fin 1 → IVec S16 32) a x).toNat < S4096.size a := fun v113 k1_hw12 => k1_hw12

def k1_chk13 (v124 : IVec S16 32) : Prop :=
  (∀ a x, ((![v124] : Fin 1 → IVec S16 32) a x).toNat < S4096.size a)
theorem k1_idx13_inb : ∀ (v124 : IVec S16 32) (k1_hw13 : k1_chk13 v124), ∀ a x, ((![v124] : Fin 1 → IVec S16 32) a x).toNat < S4096.size a := fun v124 k1_hw13 => k1_hw13

def k1_chk14 (v133 : IVec S16 32) : Prop :=
  (∀ a x, ((![v133] : Fin 1 → IVec S16 32) a x).toNat < S4096.size a)
theorem k1_idx14_inb : ∀ (v133 : IVec S16 32) (k1_hw14 : k1_chk14 v133), ∀ a x, ((![v133] : Fin 1 → IVec S16 32) a x).toNat < S4096.size a := fun v133 k1_hw14 => k1_hw14

def k1_chk15 (v142 : IVec S16 32) : Prop :=
  (∀ a x, ((![v142] : Fin 1 → IVec S16 32) a x).toNat < S4096.size a)
theorem k1_idx15_inb : ∀ (v142 : IVec S16 32) (k1_hw15 : k1_chk15 v142), ∀ a x, ((![v142] : Fin 1 → IVec S16 32) a x).toNat < S4096.size a := fun v142 k1_hw15 => k1_hw15

def k1_chk16 (v151 : IVec S16 32) : Prop :=
  (∀ a x, ((![v151] : Fin 1 → IVec S16 32) a x).toNat < S4096.size a)
theorem k1_idx16_inb : ∀ (v151 : IVec S16 32) (k1_hw16 : k1_chk16 v151), ∀ a x, ((![v151] : Fin 1 → IVec S16 32) a x).toNat < S4096.size a := fun v151 k1_hw16 => k1_hw16

def k1_chk17 (v160 : IVec S16 32) : Prop :=
  (∀ a x, ((![v160] : Fin 1 → IVec S16 32) a x).toNat < S4096.size a)
theorem k1_idx17_inb : ∀ (v160 : IVec S16 32) (k1_hw17 : k1_chk17 v160), ∀ a x, ((![v160] : Fin 1 → IVec S16 32) a x).toNat < S4096.size a := fun v160 k1_hw17 => k1_hw17

def k1_chk18 (v169 : IVec S16 32) : Prop :=
  (∀ a x, ((![v169] : Fin 1 → IVec S16 32) a x).toNat < S4096.size a)
theorem k1_idx18_inb : ∀ (v169 : IVec S16 32) (k1_hw18 : k1_chk18 v169), ∀ a x, ((![v169] : Fin 1 → IVec S16 32) a x).toNat < S4096.size a := fun v169 k1_hw18 => k1_hw18

def k1_chk19 (v178 : IVec S16 32) : Prop :=
  (∀ a x, ((![v178] : Fin 1 → IVec S16 32) a x).toNat < S4096.size a)
theorem k1_idx19_inb : ∀ (v178 : IVec S16 32) (k1_hw19 : k1_chk19 v178), ∀ a x, ((![v178] : Fin 1 → IVec S16 32) a x).toNat < S4096.size a := fun v178 k1_hw19 => k1_hw19

def k1_chk20 (v187 : IVec S16 32) : Prop :=
  (∀ a x, ((![v187] : Fin 1 → IVec S16 32) a x).toNat < S4096.size a)
theorem k1_idx20_inb : ∀ (v187 : IVec S16 32) (k1_hw20 : k1_chk20 v187), ∀ a x, ((![v187] : Fin 1 → IVec S16 32) a x).toNat < S4096.size a := fun v187 k1_hw20 => k1_hw20

def k1_chk21 (v196 : IVec S16 32) : Prop :=
  (∀ a x, ((![v196] : Fin 1 → IVec S16 32) a x).toNat < S4096.size a)
theorem k1_idx21_inb : ∀ (v196 : IVec S16 32) (k1_hw21 : k1_chk21 v196), ∀ a x, ((![v196] : Fin 1 → IVec S16 32) a x).toNat < S4096.size a := fun v196 k1_hw21 => k1_hw21

def k1_chk22 (v205 : IVec S16 32) : Prop :=
  (∀ a x, ((![v205] : Fin 1 → IVec S16 32) a x).toNat < S4096.size a)
theorem k1_idx22_inb : ∀ (v205 : IVec S16 32) (k1_hw22 : k1_chk22 v205), ∀ a x, ((![v205] : Fin 1 → IVec S16 32) a x).toNat < S4096.size a := fun v205 k1_hw22 => k1_hw22

def k1_chk23 (v214 : IVec S16 32) : Prop :=
  (∀ a x, ((![v214] : Fin 1 → IVec S16 32) a x).toNat < S4096.size a)
theorem k1_idx23_inb : ∀ (v214 : IVec S16 32) (k1_hw23 : k1_chk23 v214), ∀ a x, ((![v214] : Fin 1 → IVec S16 32) a x).toNat < S4096.size a := fun v214 k1_hw23 => k1_hw23

def k1_chk24 (v223 : IVec S16 32) : Prop :=
  (∀ a x, ((![v223] : Fin 1 → IVec S16 32) a x).toNat < S4096.size a)
theorem k1_idx24_inb : ∀ (v223 : IVec S16 32) (k1_hw24 : k1_chk24 v223), ∀ a x, ((![v223] : Fin 1 → IVec S16 32) a x).toNat < S4096.size a := fun v223 k1_hw24 => k1_hw24
def k1_mult1 (k1_t1 : Fin k1_t1_loop.trips) : BitVec 32 :=
  let c0_i32_0 : BitVec 32 := 0#32
  let c1_i32 : BitVec 32 := 1#32
  let arg6 : BitVec 32 := Scf.iv c0_i32_0 c1_i32 k1_t1
  let c16_i32_55 : BitVec 32 := 16#32
  let v231 : BitVec 32 := Scalar.muli arg6 c16_i32_55
  v231
def k1_off2 (k1_t1 : Fin k1_t1_loop.trips) : Fin 1 → Nat :=
  let c0_i32_0 : BitVec 32 := 0#32
  let c1_i32 : BitVec 32 := 1#32
  let arg6 : BitVec 32 := Scf.iv c0_i32_0 c1_i32 k1_t1
  let c16_i32_55 : BitVec 32 := 16#32
  let v231 : BitVec 32 := Scalar.muli arg6 c16_i32_55
  let v232 : BitVec 32 := v231
  let v233 : Index := Scalar.indexCast v232
  ![v233.toNat]
def k1_off3 (i : grid1.Coords) : Fin 2 → Nat :=
  let arg1 : BitVec 32 := BitVec.ofNat 32 (i 1).val
  let arg0 : BitVec 32 := BitVec.ofNat 32 (i 0).val
  let c256_i32 : BitVec 32 := 256#32
  let v1 : BitVec 32 := Scalar.muli arg0 c256_i32
  ![arg1.toNat, v1.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16x4096x512 : Shape := ⟨3, ![16, 4096, 512]⟩
abbrev S16x4096 : Shape := ⟨2, ![16, 4096]⟩
abbrev S_ : Shape := ⟨0, ![]⟩
abbrev S16 : Shape := ⟨1, ![16]⟩
abbrev S16x1 : Shape := ⟨2, ![16, 1]⟩
abbrev S65536 : Shape := ⟨1, ![65536]⟩
abbrev S65536x512 : Shape := ⟨2, ![65536, 512]⟩
abbrev S8208x512 : Shape := ⟨2, ![8208, 512]⟩
abbrev S65536x1 : Shape := ⟨2, ![65536, 1]⟩
abbrev S8208 : Shape := ⟨1, ![8208]⟩
abbrev S8208x1 : Shape := ⟨2, ![8208, 1]⟩
abbrev S16x513x512 : Shape := ⟨3, ![16, 513, 512]⟩
abbrev S16x512x512 : Shape := ⟨3, ![16, 512, 512]⟩
abbrev S16x513 : Shape := ⟨2, ![16, 513]⟩
abbrev S16x512 : Shape := ⟨2, ![16, 512]⟩

abbrev nBuf : Space → Nat
  | .hbm => 49
  | .vmem => 0
  | .smem => 0
  | _ => 0

abbrev bufTy : (tb : Table) → Fin (tcTables nBuf tb) → BufTy
  | .hbm, ⟨0, _⟩ => ⟨S16x4096x512, .f32⟩
  | .hbm, ⟨1, _⟩ => ⟨S16x4096, .i32⟩
  | .hbm, ⟨2, _⟩ => ⟨S16x4096, .i1⟩
  | .hbm, ⟨3, _⟩ => ⟨S_, .i32⟩
  | .hbm, ⟨4, _⟩ => ⟨S_, .i32⟩
  | .hbm, ⟨5, _⟩ => ⟨S16x4096, .i32⟩
  | .hbm, ⟨6, _⟩ => ⟨S16x4096, .i32⟩
  | .hbm, ⟨7, _⟩ => ⟨S16, .i32⟩
  | .hbm, ⟨8, _⟩ => ⟨S16x1, .i32⟩
  | .hbm, ⟨9, _⟩ => ⟨S_, .i32⟩
  | .hbm, ⟨10, _⟩ => ⟨S16x1, .i32⟩
  | .hbm, ⟨11, _⟩ => ⟨S16x1, .i32⟩
  | .hbm, ⟨12, _⟩ => ⟨S16x4096, .i32⟩
  | .hbm, ⟨13, _⟩ => ⟨S16x4096, .i32⟩
  | .hbm, ⟨14, _⟩ => ⟨S65536, .i32⟩
  | .hbm, ⟨15, _⟩ => ⟨S65536x512, .f32⟩
  | .hbm, ⟨16, _⟩ => ⟨S_, .f32⟩
  | .hbm, ⟨17, _⟩ => ⟨S8208x512, .f32⟩
  | .hbm, ⟨18, _⟩ => ⟨S65536x1, .i32⟩
  | .hbm, ⟨19, _⟩ => ⟨S8208x512, .f32⟩
  | .hbm, ⟨20, _⟩ => ⟨S_, .f32⟩
  | .hbm, ⟨21, _⟩ => ⟨S65536, .f32⟩
  | .hbm, ⟨22, _⟩ => ⟨S_, .f32⟩
  | .hbm, ⟨23, _⟩ => ⟨S8208, .f32⟩
  | .hbm, ⟨24, _⟩ => ⟨S65536x1, .i32⟩
  | .hbm, ⟨25, _⟩ => ⟨S8208, .f32⟩
  | .hbm, ⟨26, _⟩ => ⟨S8208x1, .f32⟩
  | .hbm, ⟨27, _⟩ => ⟨S_, .f32⟩
  | .hbm, ⟨28, _⟩ => ⟨S8208x1, .f32⟩
  | .hbm, ⟨29, _⟩ => ⟨S8208x1, .i1⟩
  | .hbm, ⟨30, _⟩ => ⟨S_, .f32⟩
  | .hbm, ⟨31, _⟩ => ⟨S8208, .f32⟩
  | .hbm, ⟨32, _⟩ => ⟨S8208, .f32⟩
  | .hbm, ⟨33, _⟩ => ⟨S8208x1, .f32⟩
  | .hbm, ⟨34, _⟩ => ⟨S8208x512, .f32⟩
  | .hbm, ⟨35, _⟩ => ⟨S8208x512, .f32⟩
  | .hbm, ⟨36, _⟩ => ⟨S_, .f32⟩
  | .hbm, ⟨37, _⟩ => ⟨S_, .f32⟩
  | .hbm, ⟨38, _⟩ => ⟨S8208x512, .i1⟩
  | .hbm, ⟨39, _⟩ => ⟨S8208x512, .f32⟩
  | .hbm, ⟨40, _⟩ => ⟨S8208x512, .f32⟩
  | .hbm, ⟨41, _⟩ => ⟨S16x513x512, .f32⟩
  | .hbm, ⟨42, _⟩ => ⟨S16x512x512, .f32⟩
  | .hbm, ⟨43, _⟩ => ⟨S16x513, .f32⟩
  | .hbm, ⟨44, _⟩ => ⟨S16x512, .f32⟩
  | .hbm, ⟨45, _⟩ => ⟨S_, .f32⟩
  | .hbm, ⟨46, _⟩ => ⟨S16x512, .f32⟩
  | .hbm, ⟨47, _⟩ => ⟨S16x512, .i1⟩
  | .hbm, ⟨48, _⟩ => ⟨S16x512, .i1⟩
  | _, _ => ⟨S16x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_call0_v1 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_5 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩

abbrev nD : Nat := 1
abbrev τ : Topo := Topo.v7x

variable {F : FTy → Type} [FloatOps F]
-- ==== Proof.Search.lean ====
/-
  The binary search over one row of 4096 bins, lane by lane: what one probe does to the interval, and what the
  interval says about the row when the twelve probes are done.
-/
module

public import proofs.«01_k».proof.Proof.Gen.KernelIdeal

@[expose] public section

namespace Cert.Proof.Search

open Idealize.ShloMosaic Cert.KernelIdeal

/-- The row's element at position `n` (zero past the end). -/
def rowAt (R : S4096.Idx → BitVec 32) (n : Nat) : BitVec 32 :=
  if h : n < 4096 then R (Shape.ofLane (d := ![4096]) ⟨n, h⟩) else 0#32

/-- The state of one lane's search for the first element that is not below `tgt`, with `j` probes left: the interval
    `lo..hi` lies in the row, its length is what `j` probes can halve to nothing, the element before `lo` is below
    `tgt`, and the element at `hi` is not. -/
structure Inv (R : S4096.Idx → BitVec 32) (tgt : BitVec 32) (j : Nat) (lo hi : BitVec 32) : Prop where
  le : lo.toNat ≤ hi.toNat
  top : hi.toNat ≤ 4096
  size : hi.toNat + 1 = lo.toNat + 2 ^ j ∨ (lo.toNat = 0 ∧ hi.toNat = 2 ^ j)
  left : lo.toNat = 0 ∨ (rowAt R (lo.toNat - 1)).slt tgt = true
  right : hi.toNat = 4096 ∨ (rowAt R hi.toNat).slt tgt = false

/-- The probe's position. -/
def mid (lo hi : BitVec 32) : BitVec 32 := IntOp.shrui .vector (IntOp.addi lo hi) 1#32

/-- The probe lies halfway, rounded down. -/
theorem mid_toNat {lo hi : BitVec 32} (hl : lo.toNat ≤ 4096) (hh : hi.toNat ≤ 4096) :
    (mid lo hi).toNat = (lo.toNat + hi.toNat) / 2 := by
  unfold mid IntOp.shrui IntOp.addi
  rw [if_pos (by decide)]
  rw [BitVec.ushiftRight_eq', BitVec.toNat_ushiftRight, BitVec.toNat_add, Nat.shiftRight_eq_div_pow]
  have : (1#32).toNat = 1 := rfl
  rw [this, pow_one, Nat.mod_eq_of_lt (by omega)]

variable {R : S4096.Idx → BitVec 32} {tgt lo hi : BitVec 32} {j : Nat}

/-- With a probe left the position is inside the row. -/
theorem Inv.mid_lt (h : Inv R tgt (j + 1) lo hi) : (mid lo hi).toNat < 4096 := by
  have h1 := h.le; have h2 := h.top
  rw [mid_toNat (by omega) h2]
  have h3 := h.size
  have : 2 ^ (j + 1) = 2 * 2 ^ j := by rw [Nat.pow_succ]; omega
  have hp : 0 < 2 ^ j := Nat.two_pow_pos j
  omega

/-- One probe halves the interval and keeps what is known of its two ends. -/
theorem Inv.step (h : Inv R tgt (j + 1) lo hi) {v : BitVec 32} (hv : v = rowAt R (mid lo hi).toNat) :
    Inv R tgt j (Scalar.select (IntOp.cmpi .slt v tgt) (IntOp.addi (mid lo hi) 1#32) lo)
      (Scalar.select (IntOp.cmpi .slt v tgt) hi (mid lo hi)) := by
  have hm := h.mid_lt
  have h1 := h.le; have h2 := h.top; have h3 := h.size
  have hmid := mid_toNat (lo := lo) (hi := hi) (by omega) h2
  have hpw : 2 ^ (j + 1) = 2 * 2 ^ j := by rw [Nat.pow_succ]; omega
  have hp : 0 < 2 ^ j := Nat.two_pow_pos j
  have hadd : (IntOp.addi (mid lo hi) 1#32).toNat = (mid lo hi).toNat + 1 := by
    unfold IntOp.addi
    rw [BitVec.toNat_add]
    have : (1#32).toNat = 1 := rfl
    omega
  unfold IntOp.cmpi Scalar.select
  subst hv
  cases hc : (rowAt R (mid lo hi).toNat).slt tgt with
  | true =>
    have h11 : BitVec.ofBool true = 1 := by decide
    simp only [hc, if_pos h11]
    exact ⟨by omega, h2, by omega, .inr (by rw [hadd]; simpa using hc), h.right⟩
  | false =>
    have h01 : ¬ (BitVec.ofBool false = 1) := by decide
    simp only [hc, if_neg h01]
    exact ⟨by omega, by omega, by omega, h.left, .inr hc⟩

/-- The whole row is where the search starts. -/
theorem Inv.start (R : S4096.Idx → BitVec 32) (tgt : BitVec 32) : Inv R tgt 12 0#32 4096#32 :=
  ⟨by decide, by decide, .inr ⟨rfl, rfl⟩, .inl rfl, .inl rfl⟩

/-- What the search leaves in one lane: a position in `0..4096` with the element before it below `tgt`, and either no
    element left or one that is not below `tgt` — at the position itself, or at position `1` where the position is `0`. -/
def LB (R : S4096.Idx → BitVec 32) (tgt r : BitVec 32) : Prop :=
  r.toNat ≤ 4096 ∧ (r.toNat = 0 ∨ (rowAt R (r.toNat - 1)).slt tgt = true)
    ∧ (r.toNat = 4096 ∨ (rowAt R r.toNat).slt tgt = false ∨ (r.toNat = 0 ∧ (rowAt R 1).slt tgt = false))

/-- With no probe left the interval's lower end is the search's answer. -/
theorem Inv.done (h : Inv R tgt 0 lo hi) : LB R tgt lo := by
  have h1 := h.le; have h2 := h.top; have h3 := h.size
  simp only [pow_zero] at h3
  refine ⟨by omega, h.left, ?_⟩
  have hr := h.right
  rcases h3 with h3 | ⟨h3, h4⟩
  · have : lo.toNat = hi.toNat := by omega
    rw [this]; rcases hr with hr | hr
    · exact .inl hr
    · exact .inr (.inl hr)
  · rw [h4] at hr
    rcases hr with hr | hr
    · omega
    · exact .inr (.inr ⟨h3, hr⟩)

/-- What the task stores for bin `n`: the difference of the two searches' answers, for `n + 1` and for `n`. -/
def Cnt (R : S4096.Idx → BitVec 32) (n : BitVec 32) (c : BitVec 32) : Prop :=
  ∃ r1 r0, LB R (n + 1#32) r1 ∧ LB R n r0 ∧ c = r1 - r0

/-! ## Sixteen lanes at once -/

/-- `Inv` in each lane. -/
def VInv (R : S4096.Idx → BitVec 32) (tgt : IVec S16 32) (j : Nat) (lo hi : IVec S16 32) : Prop :=
  ∀ x, Inv R (tgt x) j (lo x) (hi x)

/-- The vector of probe positions, as the kernel computes it. -/
abbrev vmid (lo hi : IVec S16 32) : IVec S16 32 := shrui (addi lo hi) (broadcast S16 1#32)

variable {vt vl vh : IVec S16 32}

/-- Every lane probes inside the row. -/
theorem VInv.inb (h : VInv R vt (j + 1) vl vh) :
    ∀ a x, ((![vmid vl vh] : Fin 1 → IVec S16 32) a x).toNat < S4096.size a := by
  intro a x
  obtain rfl : a = 0 := Subsingleton.elim _ _
  exact (h x).mid_lt

/-- A gathered lane is the row's element at the lane's index. -/
theorem rowAt_idxAt (idxs : Fin 1 → IVec S16 32) (h : ∀ a x, (idxs a x).toNat < S4096.size a) (x : S16.Idx) :
    R (idxAt (s := S4096) idxs h x) = rowAt R (idxs 0 x).toNat := by
  have h0 : (idxs 0 x).toNat < 4096 := h 0 x
  unfold rowAt
  rw [dif_pos h0]
  congr 1
  funext a
  obtain rfl : a = 0 := Subsingleton.elim _ _
  rfl

/-- One probe in each lane halves each lane's interval. -/
theorem VInv.step (h : VInv R vt (j + 1) vl vh) (g : IVec S16 32)
    (hg : ∀ x, g x = rowAt R (vmid vl vh x).toNat) :
    VInv R vt j (select (cmpi .slt g vt) (addi (vmid vl vh) (broadcast S16 1#32)) vl)
      (select (cmpi .slt g vt) vh (vmid vl vh)) :=
  fun x => (h x).step (hg x)

/-- Every lane starts with the whole row. -/
theorem VInv.start (R : S4096.Idx → BitVec 32) (vt : IVec S16 32) :
    VInv R vt 12 (broadcast S16 0#32) (broadcast S16 4096#32) := fun x => Inv.start R (vt x)

end Cert.Proof.Search
-- ==== Proof.Setup.lean ====
/-
  The launch set-up of the SparseCore call and of the TensorCore call in front of it: the labels, the launch
  configuration, the resource algebra, the buffers by location, and what the start and finish signals carry.
-/
module

public import proofs.«01_k».proof.Proof.Search
public import Idealize.ShloMosaic.Lib.SparseCore.Quiescent
public import Idealize.ShloMosaic.Lib.StableHlo.Run
public import Idealize.ShloMosaic.Lib.Pipeline.Kit
public import Idealize.ShloMosaic.Lib.Pipeline.Regions
public import Idealize.ShloMosaic.Lib.Tactic
public import proofs.«01_k».proof.Proof.Gen.KernelIdeal.Launch
public import proofs.«01_k».proof.Proof.Gen.KernelIdeal.Points

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Search

variable {F : FTy → Type}

/-! ## The program as the launch theorem sees it -/

/-- The labels of the bodies, the pooling call among them. -/
abbrev ΛP : Labels := Pipeline.Sig Λ₀ (Fin 1) fun p => (pcfgs (F := F) p).Adm
/-- The launch configuration. -/
abbrev K : SparseCore.Cfg τ sig (ΛP (F := F)) 1 := sc (F := F)
/-- The SparseCore call runs on sixteen subcores. -/
theorem nSub_zero : (K (F := F)).nSub 0 = 16 := rfl
/-- The SparseCore call runs on two SparseCores. -/
theorem nCore_zero : (K (F := F)).nCore 0 = 2 := rfl
/-- The table of bodies. -/
abbrev D [FloatOps F] : Defs nD τ sig (Elt F) (ΛP (F := F)) := Pipeline.defs pcfgs defs₀
/-- The loop variants of the bodies: none. -/
abbrev 𝒱₀ : Variants := Variants.none
/-- The loop variants of the launch. -/
abbrev 𝒱 : Variants := 𝒱₀.lift
/-- The one variant value. -/
abbrev v₀ : 𝒱.V := Sum.inl none

/-- The launch's side conditions. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The handshakes' resources. -/
abbrev UH : Type := URounds (GSem nD τ sig) ℕ
/-- The pooling pipeline's resources. -/
abbrev UP : Type := UR sig nD τ
/-- All of them, and the counters. -/
abbrev UU : Type := UH × (UP × Counters)

local notation "𝕄" => MT nD τ sig (HIx 1) (Elt F) ℕ UU ℕ

/-- The handshakes' rounds: the left factor. -/
abbrev EH : Emb UH (MT nD τ sig (HIx 1) (Elt F) ℕ UU ℕ) := embL
/-- The staging cells' rounds of the TensorCore call: the left half of the right factor. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb
/-- The pipeline's resources lie in the user part. -/
instance EP_landsIn : (EP : Emb UP 𝕄).LandsIn (upEmb : UEmb _ 𝕄) := by unfold EP; infer_instance

/-! ## The buffers -/

variable (m : (ℓ : Loc nD τ sig) → Buf (Elt F) ℓ) (ρ : Dev nD → PrngReg)

/-- The marked bins and the counts, as locations of device `d`. -/
abbrev xLoc (d : Dev nD) : Loc nD τ sig := (SparseCore.T d).loc main_v0
/-- The counts, as a location of a device. -/
abbrev oLoc (d : Dev nD) : Loc nD τ sig := (SparseCore.T d).loc main_v3

local notation "xV" => (Memref.whole Cert.KernelIdeal.main_v0_scv : Memref Cert.KernelIdeal.sig Kind.scVector Space.hbm Cert.KernelIdeal.S16x4096 EltTy.i32)
local notation "oV" => (Memref.whole Cert.KernelIdeal.main_v3_scv : Memref Cert.KernelIdeal.sig Kind.scVector Space.hbm Cert.KernelIdeal.S16x512 EltTy.i32)

/-- The first grid axis counts the two SparseCores. -/
theorem bound_zero : grid1.bound 0 = 2 := rfl
/-- The second grid axis counts the sixteen subcores. -/
theorem bound_one : grid1.bound 1 = 16 := rfl

/-- A task's coordinates from its SparseCore and its subcore. -/
abbrev coordsOf (c : Fin 2) (s : Fin 16) : grid1.Coords := fun
  | 0 => c
  | 1 => s
  | ⟨_ + 2, h⟩ => absurd h (Nat.not_lt.2 (Nat.le_add_left _ _))

/-- The rectangle of the marks that a task reads. -/
abbrev rowK (L : grid1.Coords) : Rect S16x4096 := Rect.unit (s := S16x4096) (k1_off1 L) S1x4096.size (k1_off1_inb L)
/-- That rectangle as a row. -/
abbrev xRowK (L : grid1.Coords) : Memref sig .scVector .hbm S4096 .i32 := ((xV).slice (rowK L) (fun _ => rfl)).squeeze S4096 squeezes_S1x4096_S4096
/-- The rectangle of the counts that a task writes. -/
abbrev partK (L : grid1.Coords) : Rect S16x512 := Rect.unit (s := S16x512) (k1_off3 L) S1x256.size (k1_off3_inb L)
/-- That rectangle as a row. -/
abbrev oPartK (L : grid1.Coords) : Memref sig .scVector .hbm S256 .i32 := ((oV).slice (partK L) (fun _ => rfl)).squeeze S256 squeezes_S1x256_S256

/-- The row of the marked bins that a task reads, and the half row of the counts that it writes, as element sets. -/
def rowSet (L : grid1.Coords) : Finset S16x4096.Idx := (xRowK L).view.set
/-- The half row of the counts that a task writes, as an element set. -/
def partSet (L : grid1.Coords) : Finset S16x512.Idx := (oPartK L).view.set

/-- Each of the two SparseCores reads every row: one half of the ownership each. -/
def coreShare (L : grid1.Coords) : PosShare TreeShare := if (L 0).val = 0 then fullShare.left else fullShare.right

/-- Row `s` of the marked bins. -/
def rowOf (X : S16x4096.Idx → BitVec 32) (s : Fin 16) : S4096.Idx → BitVec 32 := fun x => X (fun
  | 0 => s
  | 1 => x 0
  | ⟨_ + 2, h⟩ => absurd h (Nat.not_lt.2 (Nat.le_add_left _ _)))

/-- What the counts say of the marked bins at one element: the difference of the two searches for its bin in its row. -/
def CntAt (X : S16x4096.Idx → BitVec 32) (f : S16x512.Idx → BitVec 32) (y : S16x512.Idx) : Prop :=
  Cnt (rowOf X (y 0)) (BitVec.ofNat 32 (y 1).val) (f y)

variable (X : (d : Dev nD) → Buf (Elt F) (xLoc d))

/-! ## What the handshakes carry -/

/-- A task's share of its row of marks. -/
abbrev xRowPts (d : Dev nD) (L : grid1.Coords) : sProp 𝕄 := xLoc d ↦[rowSet L]{coreShare L} X d
/-- A task's half row of counts. -/
abbrev oPartPts (d : Dev nD) (L : grid1.Coords) (f : Buf (Elt F) (oLoc d)) : sProp 𝕄 := oLoc d ↦[partSet L]{fullShare} f

/-- What a task is given, and what it hands back: its row of the marked bins, and its half row of the counts. -/
abbrev goPts (d : Dev nD) (L : grid1.Coords) : sProp 𝕄 := iprop(xRowPts X d L ∗ oPartPts d L (m (oLoc d)))
/-- What a task hands back. -/
abbrev donePts (d : Dev nD) (L : grid1.Coords) : sProp 𝕄 :=
  iprop(xRowPts X d L ∗ ∃ f, ⌜∀ y ∈ partSet L, CntAt (X d) f y⌝ ∗ oPartPts d L f)

/-- The one call takes the marked bins and the counts, each task its row and its half row. -/
def P : (K (F := F)).Pay (nD := nD) (Val := Elt F) (Name := ℕ) (U := UU) where
  st := fun q d c => match q with | 0 => bigSep Finset.univ fun s : Fin 16 => goPts m X d (coordsOf (Fin.cast nCore_zero c) s)
  dn := fun q d c => match q with | 0 => bigSep Finset.univ fun s : Fin 16 => donePts X d (coordsOf (Fin.cast nCore_zero c) s)
  go := fun q d c i => match q with | 0 => goPts m X d (coordsOf (Fin.cast nCore_zero c) (Fin.cast nSub_zero i))
  td := fun q d c i => match q with | 0 => donePts X d (coordsOf (Fin.cast nCore_zero c) (Fin.cast nSub_zero i))
  x := fun _ _ => iprop(emp)

/-- What the handshakes carry can be stored. -/
instance P_storable : (P (F := F) m X).IsStorable where
  st q d c := match q with
    | 0 => (inferInstance : BI.Storable (upEmb : UEmb _ 𝕄) (bigSep Finset.univ fun s : Fin 16 => goPts m X d (coordsOf (Fin.cast nCore_zero c) s)))
  dn q d c := match q with
    | 0 => (inferInstance : BI.Storable (upEmb : UEmb _ 𝕄) (bigSep Finset.univ fun s : Fin 16 => donePts X d (coordsOf (Fin.cast nCore_zero c) s)))
  go q d c i := match q with
    | 0 => (inferInstance : BI.Storable (upEmb : UEmb _ 𝕄) (goPts m X d (coordsOf (Fin.cast nCore_zero c) (Fin.cast nSub_zero i))))
  td q d c i := match q with
    | 0 => (inferInstance : BI.Storable (upEmb : UEmb _ 𝕄) (donePts X d (coordsOf (Fin.cast nCore_zero c) (Fin.cast nSub_zero i))))

end Cert.Proof

end
-- ==== Proof.Probes.lean ====
/-
  The twenty-four probes of one trip of the SparseCore task's loop, window by window: each window keeps the search's
  state in every lane.
-/
module

public import proofs.«01_k».proof.Proof.Setup
public import Idealize.ShloMosaic.Lib.SparseCore.Ops

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Search

variable {F : FTy → Type}

local notation "𝕄" => MT nD τ sig (HIx 1) (Elt F) ℕ UU ℕ
local notation "sI" => (Memref.whole Cert.KernelIdeal.cc1_scratch0 : Memref Cert.KernelIdeal.sig Kind.scVector Space.vmem Cert.KernelIdeal.S4096 EltTy.i32)

variable [FloatOps F]

/-- A task's SparseCore. -/
abbrev cV (L : grid1.Coords) : Fin τ.nSC := (L 0).castLE hcore1
/-- A task's subcore. -/
abbrev jV (L : grid1.Coords) : Fin τ.nSub := (L 1).castLE hsub1

/-- The thread of a task. -/
abbrev VT (d : Dev nD) (L : grid1.Coords) : Thread nD τ := V d (cV L) (jV L)

/-- The row scratch's contents as the gathers read them. -/
def scr (d : Dev nD) (L : grid1.Coords) (f : Buf (Elt F) ((VT d L).loc cc1_scratch0)) : S4096.Idx → BitVec 32 :=
  ((sI).access (.whole S4096)).read (Elt F) f

/-- The row scratch, held whole. -/
abbrev sPts (d : Dev nD) (L : grid1.Coords) (f : Buf (Elt F) ((VT d L).loc cc1_scratch0)) : sProp 𝕄 :=
  ((sI).access (.whole S4096)).loc (VT d L) ↦[Finset.univ]{fullShare} f

/-- One probe: the check holds, and the gathered row elements take the search one step on. -/
theorem wp_probe {d : Dev nD} {L : grid1.Coords} {f : Buf (Elt F) ((VT d L).loc cc1_scratch0)} {α : Type}
    {Pr : Prop} {dP : Decidable Pr} {vt vl vh : IVec S16 32} {j : Nat} (hinv : VInv (scr d L f) vt (j + 1) vl vh)
    (hP : Pr)
    {hx : Pr → ∀ a x, ((![vmid vl vh] : Fin 1 → IVec S16 32) a x).toNat < S4096.size a} {hl : (sI).view.Loads}
    {k : Vec F S16 .i32 → Prog (TpuEff nD τ sig (Elt F) Λ₀ (VT d L).2) α} {Q : α → sProp 𝕄} :
    sPts d L f ⊢ iprop((∀ g : IVec S16 32, ⌜VInv (scr d L f) vt j
          (select (cmpi .slt g vt) (addi (vmid vl vh) (broadcast S16 1#32)) vl)
          (select (cmpi .slt g vt) vh (vmid vl vh))⌝ -∗ sPts d L f
        -∗ wp frame (wpE (defs₀ (F := F)) 𝒱₀ (VT d L) none) Set.univ (k g) Q)
      -∗ wp frame (wpE (defs₀ (F := F)) 𝒱₀ (VT d L) none) Set.univ
        (Prog.lift (TpuEff.assume Pr dP) >>= fun h => SparseCore.vectorLoadIdx (sI) ![vmid vl vh] (hx h.down) hl >>= k) Q) := by
  iintro Hs Hk
  have hprog : (Prog.lift (TpuEff.assume Pr dP) >>= fun h => SparseCore.vectorLoadIdx (F := F) (nD := nD) (τ := τ) (Λ := Λ₀) (sI) ![vmid vl vh] (hx h.down) hl >>= k)
      = (.op (.assume Pr dP) fun h => SparseCore.vectorLoadIdx (sI) ![vmid vl vh] (hx h.down) hl >>= k) := rfl
  rw [hprog, wp_assume_of _ _ _ _ hP]
  iapply (SparseCore.wp_vectorLoadIdx 𝒱₀ (VT d L) none Set.univ (base := (sI)) (S := Finset.univ) (q := fullShare) (Finset.subset_univ _)) $$ Hs
  iintro Hs
  iapply Hk $$ %_ %(hinv.step _ fun x => rowAt_idxAt _ _ x) Hs

/-- A returned value meets a post that holds of it. -/
theorem ret_intro {d : Dev nD} {L : grid1.Coords} {α : Type} {E : Set ℕ} {a : α} {Q : α → sProp 𝕄} :
    Q a ⊢ wp frame (wpE (defs₀ (F := F)) 𝒱₀ (VT d L) none) E (pure a : Prog (TpuEff nD τ sig (Elt F) Λ₀ (VT d L).2) α) Q := by
  show Q a ⊢ wp frame (wpE (defs₀ (F := F)) 𝒱₀ (VT d L) none) E (.ret a) Q
  rw [Idealize.SL.Sem.wp_ret]
  exact Idealize.SL.BI.fupd_intro

/-! ## The windows -/

section Windows

variable {d : Dev nD} {L : grid1.Coords} {f : Buf (Elt F) ((VT d L).loc cc1_scratch0)}
  {arg2 : Memref sig .scVector .hbm S16x4096 .i32} {harg2 : arg2.IsWhole} {arg3 : Memref sig .scVector .hbm S16x512 .i32} {harg3 : arg3.IsWhole}
  {arg5 : Memref sig .scVector .vmem S256 .i32} {harg5 : arg5.IsWhole} {r0 r1 : DmaSems sig S_}

/-- The bin numbers of trip `t`'s sixteen lanes. -/
abbrev bins (v0 : IVec S16 32) (v1 c0 c1 : BitVec 32) (t : Fin k1_t1_loop.trips) : IVec S16 32 :=
  addi (broadcast S16 (Scalar.addi v1 (Scalar.muli (Scf.iv c0 c1 t) 16#32))) v0

/-- The first window: the first four probes for the bin after each lane's. -/
theorem wp_part1 (v0 : IVec S16 32) (v1 c0 c1 : BitVec 32) (t : Fin k1_t1_loop.trips) :
    sPts d L f ⊢ wp frame (wpE (defs₀ (F := F)) 𝒱₀ (VT d L) none) Set.univ
      (k1_part1 (F := F) L arg2 harg2 arg3 harg3 (sI) (Memref.isWhole_whole _) arg5 harg5 r0 r1 v0 v1 c0 c1 t)
      fun r => iprop(⌜r.1 = Scf.iv c0 c1 t ∧ r.2.1 = bins v0 v1 c0 c1 t ∧ r.2.2.1 = addi (bins v0 v1 c0 c1 t) (broadcast S16 1#32)
          ∧ VInv (scr d L f) r.2.2.1 8 r.2.2.2.2.2.2 (select r.2.2.2.2.2.1 r.2.2.2.1 r.2.2.2.2.1)⌝ ∗ sPts d L f) := by
  unfold k1_part1
  iintro Hs
  have h0 := VInv.start (scr d L f) (addi (bins v0 v1 c0 c1 t) (broadcast S16 1#32))
  iapply (wp_probe (Pr := k1_chk1 _) h0 h0.inb) $$ Hs
  iintro %g1 %h1 Hs
  iapply (wp_probe (Pr := k1_chk2 _) h1 h1.inb) $$ Hs
  iintro %g2 %h2 Hs
  iapply (wp_probe (Pr := k1_chk3 _) h2 h2.inb) $$ Hs
  iintro %g3 %h3 Hs
  iapply (wp_probe (Pr := k1_chk4 _) h3 h3.inb) $$ Hs
  iintro %g4 %h4 Hs
  iapply (ret_intro (E := Set.univ))
  isplitr [Hs]
  · ipureintro
    exact ⟨rfl, rfl, rfl, h4⟩
  · iexact Hs

/-- The second window: five more probes. -/
theorem wp_part2 {v9 v38 v41 v46 : IVec S16 32} {v43 : IVec S16 1} (h0 : VInv (scr d L f) v9 8 v46 (select v43 v38 v41)) :
    sPts d L f ⊢ wp frame (wpE (defs₀ (F := F)) 𝒱₀ (VT d L) none) Set.univ
      (k1_part2 (F := F) L arg2 harg2 arg3 harg3 (sI) (Memref.isWhole_whole _) arg5 harg5 r0 r1 v9 v38 v41 v43 v46)
      fun r => iprop(⌜VInv (scr d L f) v9 3 r.2.2.2 (select r.2.2.1 r.1 r.2.1)⌝ ∗ sPts d L f) := by
  unfold k1_part2
  iintro Hs
  iapply (wp_probe (Pr := k1_chk5 _) h0 h0.inb) $$ Hs
  iintro %g1 %h1 Hs
  iapply (wp_probe (Pr := k1_chk6 _) h1 h1.inb) $$ Hs
  iintro %g2 %h2 Hs
  iapply (wp_probe (Pr := k1_chk7 _) h2 h2.inb) $$ Hs
  iintro %g3 %h3 Hs
  iapply (wp_probe (Pr := k1_chk8 _) h3 h3.inb) $$ Hs
  iintro %g4 %h4 Hs
  iapply (wp_probe (Pr := k1_chk9 _) h4 h4.inb) $$ Hs
  iintro %g5 %h5 Hs
  iapply (ret_intro (E := Set.univ))
  isplitr [Hs]
  · ipureintro
    exact h5
  · iexact Hs

/-- The third window: the last three probes for the bin after each lane's, and the first two for the lane's own. -/
theorem wp_part3 {v7 v9 v83 v86 v91 : IVec S16 32} {v88 : IVec S16 1} (h0 : VInv (scr d L f) v9 3 v91 (select v88 v83 v86)) :
    sPts d L f ⊢ wp frame (wpE (defs₀ (F := F)) 𝒱₀ (VT d L) none) Set.univ
      (k1_part3 (F := F) L arg2 harg2 arg3 harg3 (sI) (Memref.isWhole_whole _) arg5 harg5 r0 r1 v7 v9 v83 v86 v88 v91)
      fun r => iprop(⌜(∀ x, LB (scr d L f) (v9 x) (r.1 x)) ∧ VInv (scr d L f) v7 10
          (select r.2.2.2.2 (addi r.2.2.2.1 (broadcast S16 1#32)) r.2.1) (select r.2.2.2.2 r.2.2.1 r.2.2.2.1)⌝ ∗ sPts d L f) := by
  unfold k1_part3
  iintro Hs
  iapply (wp_probe (Pr := k1_chk10 _) h0 h0.inb) $$ Hs
  iintro %g1 %h1 Hs
  iapply (wp_probe (Pr := k1_chk11 _) h1 h1.inb) $$ Hs
  iintro %g2 %h2 Hs
  iapply (wp_probe (Pr := k1_chk12 _) h2 h2.inb) $$ Hs
  iintro %g3 %h3 Hs
  have q0 := VInv.start (scr d L f) v7
  iapply (wp_probe (Pr := k1_chk13 _) q0 q0.inb) $$ Hs
  iintro %g4 %q1 Hs
  iapply (wp_probe (Pr := k1_chk14 _) q1 q1.inb) $$ Hs
  iintro %g5 %q2 Hs
  iapply (ret_intro (E := Set.univ))
  isplitr [Hs]
  · ipureintro
    exact ⟨fun x => (h3 x).done, q2⟩
  · iexact Hs

/-- The fourth window: five more probes for each lane's own bin. -/
theorem wp_part4 {v7 v129 v130 v133 : IVec S16 32} {v135 : IVec S16 1}
    (h0 : VInv (scr d L f) v7 10 (select v135 (addi v133 (broadcast S16 1#32)) v129) (select v135 v130 v133)) :
    sPts d L f ⊢ wp frame (wpE (defs₀ (F := F)) 𝒱₀ (VT d L) none) Set.univ
      (k1_part4 (F := F) L arg2 harg2 arg3 harg3 (sI) (Memref.isWhole_whole _) arg5 harg5 r0 r1 v7 v129 v130 v133 v135)
      fun r => iprop(⌜VInv (scr d L f) v7 5
          (select r.2.2.2 (addi r.2.2.1 (broadcast S16 1#32)) r.1) (select r.2.2.2 r.2.1 r.2.2.1)⌝ ∗ sPts d L f) := by
  unfold k1_part4
  iintro Hs
  iapply (wp_probe (Pr := k1_chk15 _) h0 h0.inb) $$ Hs
  iintro %g1 %h1 Hs
  iapply (wp_probe (Pr := k1_chk16 _) h1 h1.inb) $$ Hs
  iintro %g2 %h2 Hs
  iapply (wp_probe (Pr := k1_chk17 _) h2 h2.inb) $$ Hs
  iintro %g3 %h3 Hs
  iapply (wp_probe (Pr := k1_chk18 _) h3 h3.inb) $$ Hs
  iintro %g4 %h4 Hs
  iapply (wp_probe (Pr := k1_chk19 _) h4 h4.inb) $$ Hs
  iintro %g5 %h5 Hs
  iapply (ret_intro (E := Set.univ))
  isplitr [Hs]
  · ipureintro
    exact h5
  · iexact Hs

/-- The fifth window: five more probes for each lane's own bin. -/
theorem wp_part5 {v7 v174 v175 v178 : IVec S16 32} {v180 : IVec S16 1}
    (h0 : VInv (scr d L f) v7 5 (select v180 (addi v178 (broadcast S16 1#32)) v174) (select v180 v175 v178)) :
    sPts d L f ⊢ wp frame (wpE (defs₀ (F := F)) 𝒱₀ (VT d L) none) Set.univ
      (k1_part5 (F := F) L arg2 harg2 arg3 harg3 (sI) (Memref.isWhole_whole _) arg5 harg5 r0 r1 v7 v174 v175 v178 v180)
      fun r => iprop(⌜VInv (scr d L f) v7 0
          (select r.2.2.2 (addi r.2.2.1 (broadcast S16 1#32)) r.1) (select r.2.2.2 r.2.1 r.2.2.1)⌝ ∗ sPts d L f) := by
  unfold k1_part5
  iintro Hs
  iapply (wp_probe (Pr := k1_chk20 _) h0 h0.inb) $$ Hs
  iintro %g1 %h1 Hs
  iapply (wp_probe (Pr := k1_chk21 _) h1 h1.inb) $$ Hs
  iintro %g2 %h2 Hs
  iapply (wp_probe (Pr := k1_chk22 _) h2 h2.inb) $$ Hs
  iintro %g3 %h3 Hs
  iapply (wp_probe (Pr := k1_chk23 _) h3 h3.inb) $$ Hs
  iintro %g4 %h4 Hs
  iapply (wp_probe (Pr := k1_chk24 _) h4 h4.inb) $$ Hs
  iintro %g5 %h5 Hs
  iapply (ret_intro (E := Set.univ))
  isplitr [Hs]
  · ipureintro
    exact h5
  · iexact Hs

end Windows

end Cert.Proof

end
-- ==== Proof.Tile.lean ====
/-
  One task of the SparseCore call: it fetches its row of the marked bins, searches for every bin of its half, and
  writes its half row of the counts.
-/
module

public import proofs.«01_k».proof.Proof.Probes
public import Idealize.ShloMosaic.Lib.Pipeline.Value
public import Idealize.ShloMosaic.Lib.WritesUnit
public import Idealize.ShloMosaic.Lib.ViewIndex

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Search

variable {F : FTy → Type}
local notation "𝕄" => MT nD τ sig (HIx 1) (Elt F) ℕ UU ℕ
local notation "xV" => (Memref.whole Cert.KernelIdeal.main_v0_scv : Memref Cert.KernelIdeal.sig Kind.scVector Space.hbm Cert.KernelIdeal.S16x4096 EltTy.i32)
local notation "oV" => (Memref.whole Cert.KernelIdeal.main_v3_scv : Memref Cert.KernelIdeal.sig Kind.scVector Space.hbm Cert.KernelIdeal.S16x512 EltTy.i32)
local notation "sI" => (Memref.whole Cert.KernelIdeal.cc1_scratch0 : Memref Cert.KernelIdeal.sig Kind.scVector Space.vmem Cert.KernelIdeal.S4096 EltTy.i32)
local notation "sC" => (Memref.whole Cert.KernelIdeal.cc1_scratch1 : Memref Cert.KernelIdeal.sig Kind.scVector Space.vmem Cert.KernelIdeal.S256 EltTy.i32)

variable (m : (ℓ : Loc nD τ sig) → Buf (Elt F) ℓ) (X : (d : Dev nD) → Buf (Elt F) (xLoc d))
variable [FloatOps F]
variable (d : Dev nD) (L : grid1.Coords)

omit [FloatOps F] in
/-- The row as the task names it is the row as the launch names it. -/
theorem pts_xRowK (q : PosShare TreeShare) (f : Buf (Elt F) (xLoc d)) :
    ((xRowK L).view.loc (VT d L) ↦[(xRowK L).view.set]{q} f : sProp 𝕄) = xLoc d ↦[rowSet L]{q} f := rfl
omit [FloatOps F] in
/-- The half row as the task names it is the half row as the launch names it. -/
theorem pts_oPartK (f : Buf (Elt F) (oLoc d)) :
    ((oPartK L).view.loc (VT d L) ↦[(oPartK L).view.set]{fullShare} f : sProp 𝕄) = oLoc d ↦[partSet L]{fullShare} f := rfl
omit [FloatOps F] in
/-- The first scratch buffer as the task names it is the thread's own. -/
theorem pts_sI (f : Buf (Elt F) ((VT d L).loc cc1_scratch0)) :
    ((sI).view.loc (VT d L) ↦{fullShare} f : sProp 𝕄) = (VT d L).loc cc1_scratch0 ↦{fullShare} f := rfl
omit [FloatOps F] in
/-- The second scratch buffer as the task names it is the thread's own. -/
theorem pts_sC (f : Buf (Elt F) ((VT d L).loc cc1_scratch1)) :
    ((sC).view.loc (VT d L) ↦{fullShare} f : sProp 𝕄) = (VT d L).loc cc1_scratch1 ↦{fullShare} f := rfl

/-- The two copies' semaphores. -/
abbrev cAcell : GSem nD τ sig := (VT d L, .dma cc1_scoped0.sem)
/-- The second copy's semaphore. -/
abbrev cBcell : GSem nD τ sig := (VT d L, .dma cc1_scoped1.sem)

omit [FloatOps F] in
/-- A task's semaphores are its two copies' semaphores, at zero. -/
theorem ownSems0_V :
    (ownSems0 (VT d L) : sProp 𝕄)
      = iprop(semVal (cAcell d L) 0 ∗ semVal (cBcell d L) 0
          ∗ bigSep (((ownCells (VT d L)).erase (cAcell d L)).erase (cBcell d L)) fun g => semVal g 0) := by
  unfold SparseCore.Cfg.ownSems0
  rw [SparseCore.bigSep_erase' ((mem_ownCells (g := cAcell d L)).mpr ⟨rfl, by
      show (SemLoc.dma cc1_scoped0.sem : SemLoc sig).isScoped .scVector = true; decide⟩),
    SparseCore.bigSep_erase' (Finset.mem_erase.mpr ⟨by simp [cAcell, cBcell]; decide, (mem_ownCells (g := cBcell d L)).mpr ⟨rfl, by
      show (SemLoc.dma cc1_scoped1.sem : SemLoc sig).isScoped .scVector = true; decide⟩⟩)]

omit [FloatOps F] in
/-- A subcore's own buffers: the row scratch, the counts' scratch, and the rest. -/
theorem ownBufs_V :
    (ownBufs (VT d L) : sProp 𝕄)
      = iprop((∃ f, (VT d L).loc cc1_scratch0 ↦{fullShare} f) ∗ (∃ f, (VT d L).loc cc1_scratch1 ↦{fullShare} f)
          ∗ bigSep (((ownRefs (τ := τ) (.scVector (cV L) (jV L))).erase ((Proc.scVector (cV L) (jV L)).devRef cc1_scratch0)).erase
              ((Proc.scVector (cV L) (jV L)).devRef cc1_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩)]

/-- The first bin of a task's half row. -/
abbrev base (L : grid1.Coords) : BitVec 32 := Scalar.muli (BitVec.ofNat 32 (L 0).val) 256#32

/-- The loop's invariant: the row scratch holds the row, and the counts' scratch holds the counts of the bins of the
    trips done. -/
def inv (fr : Buf (Elt F) ((VT d L).loc cc1_scratch0)) (t : Nat) (_ : BitVec 32) : sProp 𝕄 :=
  iprop(sPts d L fr ∗ ∃ f : Buf (Elt F) ((VT d L).loc cc1_scratch1),
    ⌜∀ u : S256.Idx, (u 0).val < 16 * t → Cnt (scr d L fr) (BitVec.ofNat 32 (256 * (L 0).val + (u 0).val)) ((sC).view.read (Elt F) f u)⌝
      ∗ ((sC).view.loc (VT d L) ↦{fullShare} f))

/-- A window before the rest of a program. -/
theorem wp_window {f : Buf (Elt F) ((VT d L).loc cc1_scratch0)} {α β : Type} {p : Prog (TpuEff nD τ sig (Elt F) Λ₀ (VT d L).2) α}
    {k : α → Prog (TpuEff nD τ sig (Elt F) Λ₀ (VT d L).2) β} {φ : α → Prop} {Q : β → sProp 𝕄}
    (h : sPts d L f ⊢ wp frame (wpE (defs₀ (F := F)) 𝒱₀ (VT d L) none) Set.univ p fun r => iprop(⌜φ r⌝ ∗ sPts d L f)) :
    sPts d L f ⊢ iprop((∀ r, ⌜φ r⌝ -∗ sPts d L f -∗ wp frame (wpE (defs₀ (F := F)) 𝒱₀ (VT d L) none) Set.univ (k r) Q)
      -∗ wp frame (wpE (defs₀ (F := F)) 𝒱₀ (VT d L) none) Set.univ (p >>= k) Q) := by
  rw [Idealize.SL.Sem.wp_bind]
  iintro Hs Hk
  ihave Hw := h $$ Hs
  iapply (Idealize.SL.Sem.wp_wand_r frame (wpE (defs₀ (F := F)) 𝒱₀ (VT d L) none))
  isplitl [Hw]
  · iexact Hw
  · iintro %r ⟨%hr, Hs⟩
    iapply Hk $$ %r %hr Hs

/-- The bin a lane searches for. -/
theorem bins_apply (t : Fin k1_t1_loop.trips) (x : S16.Idx) :
    bins (iota .scVector S16 32 [0] iota_S16_d0_w32_scVector) (base L) 0#32 1#32 t x
      = BitVec.ofNat 32 (256 * (L 0).val + (16 * t.val + (x 0).val)) := by
  show Scalar.addi (base L) (Scalar.muli (Scf.iv 0#32 1#32 t) 16#32) + iota .scVector S16 32 [0] iota_S16_d0_w32_scVector x = _
  rw [iota_single_apply]
  show BitVec.ofNat 32 (L 0).val * 256#32 + (0#32 + BitVec.ofNat 32 t.val * 1#32) * 16#32 + BitVec.ofNat 32 (x 0).val = _
  apply BitVec.eq_of_toNat_eq
  have h0 : (L 0).val < 2 := (L 0).isLt
  have h1 : t.val < 16 := t.isLt
  have h2 : (x 0).val < 16 := (x 0).isLt
  simp only [BitVec.toNat_add, BitVec.toNat_mul, BitVec.toNat_ofNat]
  omega

/-! ## The row read, and the half row written -/

/-- The place of an element of a row, or of a half row, in the one-row block that a copy moves. -/
def inRow {n : Nat} (x : (⟨1, ![n]⟩ : Shape).Idx) : (⟨2, ![1, n]⟩ : Shape).Idx
  | 0 => (⟨0, Nat.one_pos⟩ : Fin 1)
  | 1 => x 0
  | ⟨_ + 2, h⟩ => absurd h (Nat.not_lt.2 (Nat.le_add_left _ _))

/-- A row as a one-row matrix: an element keeps its position. -/
theorem inRow_eq {n : Nat} (h : (⟨1, ![n]⟩ : Shape).numel = (⟨2, ![1, n]⟩ : Shape).numel) (x : (⟨1, ![n]⟩ : Shape).Idx) :
    Shape.reshapeEquiv h x = inRow x := by
  apply Shape.reshapeEquiv_eq_of_rowMajor
  rw [Shape.rowMajor_val_one, Shape.rowMajor_val_two]
  show 0 * _ + (x 0).val = (x 0).val
  omega

/-- Where an element of a task's row lies in the marks. -/
theorem xRowK_emb (x : S4096.Idx) : ((xRowK L).view.emb x : S16x4096.Idx) = fun
    | 0 => L 1
    | 1 => x 0
    | ⟨_ + 2, h⟩ => absurd h (Nat.not_lt.2 (Nat.le_add_left _ _)) := by
  have e : (xRowK L).view.emb x = (rowK L).emb (Shape.reshapeEquiv squeezes_S1x4096_S4096.numel_eq x) := rfl
  rw [e, inRow_eq]
  refine Shape.idx_ext₂ ?_ ?_
  · show k1_off1 L 0 + 1 * 0 = (L 1).val
    rw [k1_off1_eq]
    rfl
  · show k1_off1 L 1 + 1 * (x 0).val = (x 0).val
    rw [k1_off1_eq]
    show 0 + 1 * (x 0).val = _
    omega

/-- Where an element of a task's half row lies in the counts. -/
theorem oPartK_emb (u : S256.Idx) :
    ((((oPartK L).view.emb u : S16x512.Idx) 0).val = (L 1).val) ∧ ((((oPartK L).view.emb u : S16x512.Idx) 1).val = 256 * (L 0).val + (u 0).val) := by
  have e : (oPartK L).view.emb u = (partK L).emb (Shape.reshapeEquiv squeezes_S1x256_S256.numel_eq u) := rfl
  rw [e, inRow_eq]
  constructor
  · show k1_off3 L 0 + 1 * 0 = (L 1).val
    rw [k1_off3_eq]
    rfl
  · show k1_off3 L 1 + 1 * (u 0).val = _
    rw [k1_off3_eq]
    show 256 * (L 0).val + 1 * (u 0).val = _
    omega

omit [FloatOps F] in
/-- What the first copy leaves in the row scratch is the task's row. -/
theorem scr_row (fs : Buf (Elt F) ((VT d L).loc cc1_scratch0)) :
    scr d L (View.write (Elt F) (sI).view fs ((xRowK L).view.read (Elt F) (X d)) Finset.univ) = rowOf (X d) (L 1) := by
  unfold scr
  rw [show View.write (Elt F) (sI).view fs ((xRowK L).view.read (Elt F) (X d)) Finset.univ = (xRowK L).view.read (Elt F) (X d) from
    View.write_whole_univ _ _ _]
  funext x
  have hx : ((sI).access (.whole S4096)).read (Elt F) ((xRowK L).view.read (Elt F) (X d)) x = (xRowK L).view.read (Elt F) (X d) x := by
    show (xRowK L).view.read (Elt F) (X d) ((Rect.whole S4096).emb x) = _
    rw [show (Rect.whole S4096).emb x = x from Shape.idx1_ext (show 0 + 1 * (x 0).val = (x 0).val by omega)]
  rw [hx]
  show X d ((xRowK L).view.emb x) = _
  rw [xRowK_emb]
  exact congrArg (X d) (Shape.idx_ext₂ rfl rfl)

omit [FloatOps F] in
/-- What the second copy leaves in the half row is the counts' scratch. -/
theorem part_done (g0 : Buf (Elt F) (oLoc d)) (w : S256.Idx → BitVec 32)
    (hw : ∀ u : S256.Idx, Cnt (rowOf (X d) (L 1)) (BitVec.ofNat 32 (256 * (L 0).val + (u 0).val)) (w u)) (y : S16x512.Idx) (hy : y ∈ partSet L) :
    CntAt (X d) ((oPartK L).view.writes (Elt F) g0 [⟨Rect.whole S256, w⟩]) y := by
  obtain ⟨u, -, rfl⟩ := Finset.mem_map.mp hy
  have hr : (oPartK L).view.read (Elt F) ((oPartK L).view.writes (Elt F) g0 [⟨Rect.whole S256, w⟩]) u = w u := by
    have := View.read_writes_cons_emb (oPartK L).view (Val := Elt F) g0 (Rect.whole S256) w [] u
    rwa [show (Rect.whole S256).emb u = u from Shape.idx1_ext (show 0 + 1 * (u 0).val = (u 0).val by omega)] at this
  have hg : (oPartK L).view.writes (Elt F) g0 [⟨Rect.whole S256, w⟩] ((oPartK L).view.emb u) = w u := hr
  obtain ⟨h0, h1⟩ := oPartK_emb L u
  unfold CntAt
  rw [hg, h1, show (((oPartK L).view.emb u : S16x512.Idx) 0) = L 1 from Fin.ext h0]
  exact hw u

/-- A task, given its row and its half row, ends with its half row counted. -/
theorem tile_body (hF : (K (F := F)).Facts) (O : CellTallies nD τ sig (HIx 1)) (W : Waits sig (HIx 1)) (hO : ∀ g, O g none = 0) :
    iprop(levAts (K (F := F)).L (K (F := F)).lev ∗ emp ∗ goPts m X d L
        ∗ scopedBufs (VT d L) ∗ scopedSems0 (VT d L) ∗ owes (VT d L) O W)
      ⊢ wp frame (wpE (defs₀ (F := F)) 𝒱₀ (VT d L) none) Set.univ
          (cc1__sc_body L xV (Memref.isWhole_whole _) oV (Memref.isWhole_whole _) sI (Memref.isWhole_whole _) sC (Memref.isWhole_whole _) cc1_scoped0 cc1_scoped1)
          fun _ => iprop(donePts X d L
            ∗ scopedBufs (VT d L) ∗ scopedSems0 (VT d L)
            ∗ ∃ W', ⌜∀ p ∈ W', p ∈ W ∨ p.2 = none ∨ p.2 = some (0 : Fin 1)⌝ ∗ owes (VT d L) O W') := by
  rw [(K (F := F)).scopedBufs_V hF d (cV L) (jV L), SparseCore.Cfg.scopedSems0_V (Val := Elt F) d (cV L) (jV L), ownSems0_V, ownBufs_V]
  iintro ⟨#Hlv, -, ⟨Hx, Ho⟩, ⟨⟨%fs, Hs⟩, ⟨%fc, Hc⟩, Hbufs⟩, ⟨HsemA, HsemB, Hsems⟩, HO⟩
  ihave Hmw := (show levAts (K (F := F)).L (K (F := F)).lev ⊢ Transfers.MayWaits (VT d L) (default : HIx 1) O from
    (K (F := F)).mayWaits_none (thr := VT d L) hO) $$ Hlv
  ihave Hx' := (Entails.of_eq (pts_xRowK (F := F) d L _ _).symm) $$ Hx
  ihave Ho' := (Entails.of_eq (pts_oPartK (F := F) d L _).symm) $$ Ho
  ihave Hs' := (Entails.of_eq (pts_sI (F := F) d L _).symm) $$ Hs
  ihave Hc' := (Entails.of_eq (pts_sC (F := F) d L _).symm) $$ Hc
  sl_unfold [cc1__sc_body]
  sl_exec
  sl_for (inv d L (View.write (Elt F) (sI).view fs (tile_body.sl.dma0 X d L) Finset.univ)) $$ [Hs' Hc']
  case region =>
    intro k acc
    unfold inv
    iintro ⟨Hs, ⟨%f, %Hf, Hc⟩⟩
    iapply (wp_window d L (wp_part1 _ _ _ _ _)) $$ Hs
    iintro %r %hr Hs
    obtain ⟨a6, v7, v9, v38, v41, v43, v46⟩ := r
    obtain ⟨e6, e7, e9, h1⟩ := hr
    dsimp only at e6 e7 e9 h1
    iapply (wp_window d L (wp_part2 h1)) $$ Hs
    iintro %r %hr Hs
    obtain ⟨v83, v86, v88, v91⟩ := r
    have h2 := hr
    clear hr
    dsimp only at h2
    iapply (wp_window d L (wp_part3 h2)) $$ Hs
    iintro %r %hr Hs
    obtain ⟨v118, v129, v130, v133, v135⟩ := r
    obtain ⟨h3, h4⟩ := hr
    dsimp only at h3 h4
    iapply (wp_window d L (wp_part4 h4)) $$ Hs
    iintro %r %hr Hs
    obtain ⟨v174, v175, v178, v180⟩ := r
    have h5 := hr
    clear hr
    dsimp only at h5
    iapply (wp_window d L (wp_part5 h5)) $$ Hs
    iintro %r %hr Hs
    obtain ⟨v219, v220, v223, v225⟩ := r
    have h6 := hr
    clear hr
    dsimp only at h6
    sl_exec
    rw [Idealize.SL.Sem.wp_ret]
    iapply Idealize.SL.BI.fupd_intro
    isplitl [Hs]
    · iexact Hs
    · iexists _
      isplitr [Hc]
      rotate_left
      · iexact Hc
      · ipureintro
        intro u hu
        have ek : k1_off2 k = ![16 * k.val] := k1_off2_eq k
        by_cases hlt : (u 0).val < 16 * k.val
        · rw [View.read_writes_cons_unit_of_not_mem (sC).view f (k1_off2_inb k) _ [] u ek 0 (Or.inl hlt)]
          exact Hf u hlt
        · have hx : (u 0).val - 16 * k.val < 16 := by omega
          rw [View.read_writes_cons_unit_of_mem (sC).view f (k1_off2_inb k) _ [] u (Shape.ofLane (d := ![16]) ⟨(u 0).val - 16 * k.val, hx⟩) ek
            (fun a => by
              obtain rfl : a = (0 : Fin 1) := Subsingleton.elim (α := Fin 1) _ _
              show (u 0).val = 16 * k.val + ((u 0).val - 16 * k.val)
              omega)]
          set x : S16.Idx := Shape.ofLane (d := ![16]) ⟨(u 0).val - 16 * k.val, hx⟩
          have hb := bins_apply L k x
          have hn : 256 * (L 0).val + (16 * k.val + (x 0).val) = 256 * (L 0).val + (u 0).val := by
            show 256 * (L 0).val + (16 * k.val + ((u 0).val - 16 * k.val)) = _
            omega
          rw [hn] at hb
          have e7' : v7 x = BitVec.ofNat 32 (256 * (L 0).val + (u 0).val) := (congrFun e7 x).trans hb
          refine ⟨v118 x, _, ?_, (e7' ▸ (h6 x).done), rfl⟩
          have := h3 x
          rw [e9] at this
          rw [← hb]
          exact this
  · unfold inv
    isplitl [Hs']
    · iexact Hs'
    · iexists fc
      isplitr [Hc']
      · ipureintro
        intro u hu
        exact absurd hu (by omega)
      · iexact Hc'
  iintro %_ HI
  unfold inv
  icases HI with ⟨Hs', ⟨%f, %Hf, Hc'⟩⟩
  sl_exec
  rw [Idealize.SL.Sem.wp_ret]
  iapply Idealize.SL.BI.fupd_intro
  isplitl [Hx' Ho']
  · isplitl [Hx']
    · iexact Hx'
    · iexists _
      isplitr [Ho']
      rotate_left
      · iexact Ho'
      · ipureintro
        intro y hy
        refine part_done X d L _ _ (fun u => ?_) y hy
        have := Hf u (u 0).isLt
        rwa [show tile_body.sl.dma0 X d L = (xRowK L).view.read (Elt F) (X d) from rfl, scr_row] at this
  isplitl [Hs' Hc' Hbufs]
  · isplitl [Hs']
    · iexists _
      iexact Hs'
    isplitl [Hc']
    · iexists _
      iexact Hc'
    · iexact Hbufs
  isplitl [HsemA HsemB Hsems]
  · isplitl [HsemA]
    · iexact HsemA
    isplitl [HsemB]
    · iexact HsemB
    · iexact Hsems
  iexists _
  isplitr [HO]
  rotate_left
  · iexact HO
  · ipureintro
    intro p hp
    rcases Finset.mem_insert.mp hp with rfl | hp
    · exact Or.inr (Or.inl rfl)
    rcases Finset.mem_insert.mp hp with rfl | hp
    · exact Or.inr (Or.inl rfl)
    · exact Or.inl hp

end Cert.Proof

end
-- ==== Proof.Call.lean ====
/-
  The SparseCore call as a whole: each task's obligation, and the marked bins and the counts as the pieces that the
  tasks hold.
-/
module

public import proofs.«01_k».proof.Proof.Tile

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Search

variable {F : FTy → Type}
local notation "𝕄" => MT nD τ sig (HIx 1) (Elt F) ℕ UU ℕ

variable (m : (ℓ : Loc nD τ sig) → Buf (Elt F) ℓ) (X : (d : Dev nD) → Buf (Elt F) (xLoc d))

/-! ## The tasks' obligation -/

section Obligation

variable [FloatOps F]

/-- A task of the SparseCore call runs the search body. -/
theorem defs₀_vector (c : Fin τ.nSC) (s : Fin τ.nSub) :
    defs₀ (F := F) (.scVector c s) 1 ()
      = SparseCore.onTile hcore1 hsub1 (fun c s => cc1__sc_body (coordsOf c s)
          (Memref.whole main_v0_scv) (Memref.isWhole_whole _) (Memref.whole main_v3_scv) (Memref.isWhole_whole _)
          (Memref.whole cc1_scratch0) (Memref.isWhole_whole _) (Memref.whole cc1_scratch1) (Memref.isWhole_whole _) cc1_scoped0 cc1_scoped1) ⟨⟩ c s := rfl

/-- Every task's run, as the launch asks for it. -/
theorem tileObl (hF : (K (F := F)).Facts) : (K (F := F)).TileObl (D (F := F)) 𝒱 (P m X) v₀ 0 := by
  intro d c i O W hO _ _
  simp only [show (P m X).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m X d (coordsOf ⟨_, hci.1⟩ ⟨_, hci.2⟩) hF O W hO

omit [FloatOps F] in
/-- The call's payload is its tasks' payloads, together. -/
theorem vecSplit : (K (F := F)).VecSplit' (P m X) 0 := by
  intro d c
  show (bigSep Finset.univ fun s : Fin 16 => goPts m X d (coordsOf (Fin.cast nCore_zero c) s))
    ⊢ |={Set.univ}=> iprop((bigSep Finset.univ fun i : Fin ((K (F := F)).nSub 0) => goPts m X d (coordsOf (Fin.cast nCore_zero c) (Fin.cast nSub_zero i)))
      ∗ ((bigSep Finset.univ fun i : Fin ((K (F := F)).nSub 0) => donePts X d (coordsOf (Fin.cast nCore_zero c) (Fin.cast nSub_zero i)))
          -∗ bigSep Finset.univ fun s : Fin 16 => donePts X d (coordsOf (Fin.cast nCore_zero c) s)))
  iintro H; imodintro
  isplitl [H]; · iexact H
  iintro H; iexact H

end Obligation

/-! ## The pieces -/

/-- A task: its SparseCore and its subcore. -/
abbrev Task : Type := Fin 2 × Fin 16
/-- A task's coordinates. -/
abbrev taskL (t : Task) : grid1.Coords := coordsOf t.1 t.2

/-- A task's row holds the elements of the batch row its subcore names. -/
theorem mem_rowSet (L : grid1.Coords) (y : S16x4096.Idx) : y ∈ rowSet L ↔ (y 0).val = (L 1).val := by
  constructor
  · intro hy
    obtain ⟨u, -, rfl⟩ := Finset.mem_map.mp hy
    exact congrArg Fin.val (congrFun (xRowK_emb L u) 0)
  · intro h
    refine Finset.mem_map.mpr ⟨Shape.ofLane (d := ![4096]) (y 1), Finset.mem_univ _, ?_⟩
    rw [xRowK_emb]
    exact Shape.idx_ext₂ h.symm rfl

/-- A task's half row holds the 256 bins its SparseCore names, in the batch row its subcore names. -/
theorem mem_partSet (L : grid1.Coords) (y : S16x512.Idx) :
    y ∈ partSet L ↔ (y 0).val = (L 1).val ∧ 256 * (L 0).val ≤ (y 1).val ∧ (y 1).val < 256 * (L 0).val + 256 := by
  constructor
  · intro hy
    obtain ⟨u, -, rfl⟩ := Finset.mem_map.mp hy
    obtain ⟨h0, h1⟩ := oPartK_emb L u
    have hu : (u 0).val < 256 := (u 0).isLt
    exact ⟨h0, by omega, by omega⟩
  · rintro ⟨h0, h1, h2⟩
    have hx : (y 1).val - 256 * (L 0).val < 256 := by omega
    refine Finset.mem_map.mpr ⟨Shape.ofLane (d := ![256]) ⟨(y 1).val - 256 * (L 0).val, hx⟩, Finset.mem_univ _, ?_⟩
    obtain ⟨e0, e1⟩ := oPartK_emb L (Shape.ofLane (d := ![256]) ⟨(y 1).val - 256 * (L 0).val, hx⟩)
    refine Shape.idx_ext₂ (e0.trans h0.symm) (e1.trans ?_)
    show 256 * (L 0).val + ((y 1).val - 256 * (L 0).val) = (y 1).val
    omega

/-- Different tasks write different half rows. -/
theorem parts_disjoint : ∀ t ∈ (Finset.univ : Finset Task), ∀ t' ∈ (Finset.univ : Finset Task), t ≠ t' →
    Disjoint (partSet (taskL t)) (partSet (taskL t')) := by
  intro t _ t' _ hne
  refine Finset.disjoint_left.mpr fun y hy hy' => hne ?_
  obtain ⟨h0, h1, h2⟩ := (mem_partSet _ y).mp hy
  obtain ⟨h0', h1', h2'⟩ := (mem_partSet _ y).mp hy'
  change (y 0).val = t.2.val at h0
  change (y 0).val = t'.2.val at h0'
  change 256 * t.1.val ≤ _ at h1
  change 256 * t'.1.val ≤ _ at h1'
  change _ < 256 * t.1.val + 256 at h2
  change _ < 256 * t'.1.val + 256 at h2'
  exact Prod.ext (Fin.ext (by omega)) (Fin.ext (by omega))

/-- The half rows of all tasks are the whole array of counts. -/
theorem parts_cover : (Finset.univ : Finset Task).biUnion (fun t => partSet (taskL t)) = Finset.univ := by
  refine Finset.eq_univ_iff_forall.mpr fun y => Finset.mem_biUnion.mpr ?_
  have h0 : (y 0).val < 16 := (y 0).isLt
  have h1 : (y 1).val < 512 := (y 1).isLt
  refine ⟨(⟨(y 1).val / 256, by omega⟩, ⟨(y 0).val, h0⟩), Finset.mem_univ _, (mem_partSet _ y).mpr ⟨rfl, ?_, ?_⟩⟩
  · show 256 * ((y 1).val / 256) ≤ _
    omega
  · show _ < 256 * ((y 1).val / 256) + 256
    omega

/-- The subcores of one SparseCore read different rows. -/
theorem rows_disjoint (c : Fin 2) : ∀ s ∈ (Finset.univ : Finset (Fin 16)), ∀ s' ∈ (Finset.univ : Finset (Fin 16)), s ≠ s' →
    Disjoint (rowSet (coordsOf c s)) (rowSet (coordsOf c s')) := by
  intro s _ s' _ hne
  refine Finset.disjoint_left.mpr fun y hy hy' => hne (Fin.ext ?_)
  exact ((mem_rowSet _ y).mp hy).symm.trans ((mem_rowSet _ y).mp hy')

/-- The rows of the subcores of one SparseCore are the whole array of marks. -/
theorem rows_cover (c : Fin 2) : (Finset.univ : Finset (Fin 16)).biUnion (fun s => rowSet (coordsOf c s)) = Finset.univ := by
  refine Finset.eq_univ_iff_forall.mpr fun y => Finset.mem_biUnion.mpr ?_
  exact ⟨y 0, Finset.mem_univ _, (mem_rowSet _ y).mpr rfl⟩

/-- One SparseCore's half of the ownership of the marked bins is its rows'. -/
theorem xPts_rows (d : Dev nD) (c : Fin 2) (q : PosShare TreeShare) (f : Buf (Elt F) (xLoc d)) :
    (xLoc d ↦{q} f : sProp 𝕄) = bigSep Finset.univ fun s : Fin 16 => xLoc d ↦[rowSet (coordsOf c s)]{q} f := by
  rw [← pointsTo_biUnion Finset.univ (ℓ := xLoc d) (fun s => rowSet (coordsOf c s)) (rows_disjoint c), rows_cover]; try rfl

/-- The counts whole are the half rows of all the tasks. -/
theorem oPts_parts (d : Dev nD) (f : Buf (Elt F) (oLoc d)) :
    (oLoc d ↦{fullShare} f : sProp 𝕄) = bigSep Finset.univ fun t : Task => oPartPts d (taskL t) f := by
  rw [← pointsTo_biUnion Finset.univ (ℓ := oLoc d) (fun t => partSet (taskL t)) parts_disjoint, parts_cover]; try rfl

/-- A resource for each of two SparseCores is the two of them. -/
theorem bigSep_two (Φ : Fin 2 → sProp 𝕄) : bigSep Finset.univ Φ = iprop(Φ 0 ∗ Φ 1) := by
  rw [show (Finset.univ : Finset (Fin 2)) = {0, 1} by decide, SparseCore.bigSep_insert' (by decide), bigSep_singleton]

/-- The marked bins whole are their rows twice over, one half of the ownership with each SparseCore. -/
theorem xPts_tasks (d : Dev nD) :
    (xLoc d ↦{fullShare} X d : sProp 𝕄) ⊣⊢ bigSep Finset.univ fun c : Fin 2 => bigSep Finset.univ fun s : Fin 16 => xRowPts X d (coordsOf c s) := by
  rw [bigSep_two]
  have h0 : (bigSep Finset.univ fun s : Fin 16 => xRowPts X d (coordsOf 0 s) : sProp 𝕄) = xLoc d ↦{fullShare.left} X d :=
    (xPts_rows d 0 fullShare.left (X d)).symm
  have h1 : (bigSep Finset.univ fun s : Fin 16 => xRowPts X d (coordsOf 1 s) : sProp 𝕄) = xLoc d ↦{fullShare.right} X d :=
    (xPts_rows d 1 fullShare.right (X d)).symm
  rw [h0, h1]
  exact pointsTo_share (PosShare.mem_left_op_right fullShare)

/-- What the call takes, from the two arrays whole. -/
theorem call_in (d : Dev nD) :
    iprop((xLoc d ↦{fullShare} X d) ∗ (oLoc d ↦{fullShare} m (oLoc d)))
      ⊢ (bigSep Finset.univ fun c : Fin ((K (F := F)).nCore 0) => (P m X).st 0 d c : sProp 𝕄) := by
  show _ ⊢ bigSep Finset.univ fun c : Fin 2 => bigSep Finset.univ fun s : Fin 16 => iprop(xRowPts X d (coordsOf c s) ∗ oPartPts d (coordsOf c s) (m (oLoc d)))
  simp only [bigSep_sep']
  rw [oPts_parts, ← Finset.univ_product_univ, SparseCore.bigSep_product]
  iintro ⟨Hx, Ho⟩
  isplitl [Hx]
  · iapply (xPts_tasks X d).1 $$ Hx
  · iexact Ho

/-- What the call gives back: the two arrays whole, the counts being the searches' differences. -/
theorem call_out (d : Dev nD) :
    (bigSep Finset.univ fun c : Fin ((K (F := F)).nCore 0) => (P m X).dn 0 d c : sProp 𝕄)
      ⊢ iprop((xLoc d ↦{fullShare} X d) ∗ ∃ g, ⌜∀ y, CntAt (X d) g y⌝ ∗ (oLoc d ↦{fullShare} g)) := by
  show (bigSep Finset.univ fun c : Fin 2 => bigSep Finset.univ fun s : Fin 16 => iprop(xRowPts X d (coordsOf c s)
    ∗ ∃ f, ⌜∀ y ∈ partSet (coordsOf c s), CntAt (X d) f y⌝ ∗ oPartPts d (coordsOf c s) f)) ⊢ _
  simp only [bigSep_sep']
  refine BI.sep_mono (xPts_tasks X d).2 ?_
  rw [← SparseCore.bigSep_product Finset.univ Finset.univ (fun t : Task => (iprop(∃ f, ⌜∀ y ∈ partSet (taskL t), CntAt (X d) f y⌝ ∗ oPartPts d (taskL t) f) : sProp 𝕄)),
    Finset.univ_product_univ]
  haveI : Nonempty (Buf (Elt F) (oLoc d)) := ⟨m (oLoc d)⟩
  refine (bigSep_exists_pi Finset.univ (fun (t : Task) (f : Buf (Elt F) (oLoc d)) => iprop(⌜∀ y ∈ partSet (taskL t), CntAt (X d) f y⌝ ∗ oPartPts d (taskL t) f))).trans ?_
  iintro ⟨%fs, H⟩
  ihave H := (BI.bigSep_pure_sep Finset.univ (fun t : Task => ∀ y ∈ partSet (taskL t), CntAt (X d) (fs t) y) (fun t => oPartPts d (taskL t) (fs t))) $$ H
  icases H with ⟨%hC, H⟩
  ihave H := (pointsTo_biUnion_join (ℓ := oLoc d) (q := fullShare) (Val := Elt F) Finset.univ (fun t : Task => partSet (taskL t)) fs (fs (0, 0)) parts_disjoint) $$ H
  icases H with ⟨%g, %hg, Hg⟩
  rw [parts_cover]
  iexists g
  isplitr [Hg]
  · ipureintro
    intro y
    obtain ⟨t, ht, hy⟩ := Finset.mem_biUnion.mp (parts_cover ▸ Finset.mem_univ y)
    have := hC t ht y hy
    unfold CntAt at this ⊢
    rwa [hg t ht y hy]
  · iexact Hg

end Cert.Proof

end
-- ==== Proof.Region.lean ====
/-
  The TensorCore's pooling call: its body at one grid point, its proof data over the arrays it is entered with, and
  the region the launch's main thread runs it as.
-/
module

public import proofs.«01_k».proof.Proof.Setup
public import proofs.«01_k».proof.Proof.Gen.KernelIdeal.Skeleton
public import Idealize.ShloMosaic.Lib.Pipeline.Value
public import Idealize.ShloMosaic.Lib.Pipeline.FrameBody
public import Idealize.ShloMosaic.Lib.VecWindow
public import Idealize.ShloMosaic.Lib.Pipeline.RegionArrays

@[expose] public section

noncomputable section

namespace Cert.Proof

open Cert.KernelIdeal Cert.KernelIdeal.Gen

open Idealize.ShloMosaic
open Idealize.ShloMosaic.TcCoe
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat BodyObligation)

variable {F : FTy → Type} [FloatOps F]

local notation "𝕄" => MT nD τ sig (HIx 1) (Elt F) ℕ UU ℕ

/-- A staging buffer of the TensorCore held whole. -/
abbrev stPts (c : Dev nD) {sp : Space} {s : Shape} {e : EltTy} (M : Memref sig .tc sp s e) (f : Buf (Elt F) (M.view.loc (c : Thread nD τ))) : sProp 𝕄 :=
  M.view.loc (c : Thread nD τ) ↦{fullShare} f

/-- The body at one grid point: the blocks of marks and of features are read, the pooled block and the block of
    occupancies are written whole. -/
theorem pool_run (c : Dev nD) (i : grid0.Coords)
    (M0 : Memref sig .tc .vmem S1x1x4096 .i32) (h0 : M0.IsWhole) (M1 : Memref sig .tc .vmem S1x4096x512 .f32) (h1 : M1.IsWhole)
    (M2 : Memref sig .tc .vmem S1x512x512 .f32) (h2 : M2.IsWhole) (M3 : Memref sig .tc .vmem S1x1x512 .f32) (h3 : M3.IsWhole)
    (f0 : Buf (Elt F) (M0.view.loc (c : Thread nD τ))) (f1 : Buf (Elt F) (M1.view.loc (c : Thread nD τ)))
    (f2 : Buf (Elt F) (M2.view.loc (c : Thread nD τ))) (f3 : Buf (Elt F) (M3.view.loc (c : Thread nD τ)))
    (E : Set ℕ) (Q : PUnit → sProp 𝕄) :
    iprop(stPts c M0 f0 ∗ stPts c M1 f1 ∗ stPts c M2 f2 ∗ stPts c M3 f3
        ∗ (iprop(stPts c M0 f0 ∗ stPts c M1 f1
            ∗ (∃ g, ⌜M2.view.read (Elt F) g = k0_pay4 (M0.view.read (Elt F) f0) (M1.view.read (Elt F) f1)⌝ ∗ stPts c M2 g)
            ∗ (∃ g, ⌜M3.view.read (Elt F) g = k0_pay3 (M0.view.read (Elt F) f0)⌝ ∗ stPts c M3 g)) -∗ Q ⟨⟩))
      ⊢ wp frame (wpE (defs₀ (F := F)) 𝒱₀ (c : Thread nD τ) none) E (cc0__pool_body i M0 h0 M1 h1 M2 h2 M3 h3) Q := by
  rw [cc0__pool_body_eq_skeleton]
  unfold cc0__pool_body_skel
  iintro ⟨H0, H1, H2, H3, Hk⟩
  sl_exec
  rw [Idealize.SL.Sem.wp_ret]
  iapply Idealize.SL.BI.fupd_intro
  iapply Hk
  isplitl [H0]; · iexact H0
  isplitl [H1]; · iexact H1
  isplitl [H2]
  · iexists _
    isplitr; swap; (· iexact H2)
    ipureintro
    rw [View.read_writes_full, View.readAt_full, View.readAt_full]
  iexists _
  isplitr; swap; (· iexact H3)
  ipureintro
  rw [View.read_writes_full, View.readAt_full]

/-! ## The proof data -/

-- what the unscoped buffers hold when the call is entered
variable (V : (c : Dev nD) → (b : Ref sig .tc) → Buf (Elt F) ((c : Thread nD τ).loc b))

/-- The block of marks and the block of features of a grid point, read off the arrays. -/
abbrev markBlk (c : Dev nD) (t : Fin cfg0.N) : (cfg0.win 0).block.Idx → Elt F (cfg0.win 0).elt :=
  ((cfg0.win 0).blk t).view.read (Elt F) (V c main_v1)
/-- The block of features of a grid point. -/
abbrev featBlk (c : Dev nD) (t : Fin cfg0.N) : (cfg0.win 1).block.Idx → Elt F (cfg0.win 1).elt :=
  ((cfg0.win 1).blk t).view.read (Elt F) (V c main_arg0)

/-- The proof data of the pooling call, entered before the SparseCore call: the inputs' buffers stay as fetched, the
    outputs' hold the body's values; the core owes the SparseCore call's start signals throughout. -/
def dat (c : Dev nD) : Dat τ (Elt F) (HIx 1) ℕ UU ℕ cfg0 c where
  A w := V c (Pipeline.arrRef spec0 w)
  after w t := match w with
    | ⟨0, _⟩ => markBlk V c t
    | ⟨1, _⟩ => featBlk V c t
    | ⟨2, _⟩ => k0_pay4 (markBlk V c t) (featBlk V c t)
    | ⟨3, _⟩ => k0_pay3 (markBlk V c t)
  Φ _ := Pipeline.scopedRest (Ix := HIx 1) (Name := ℕ) (U := UU) (Lvl := ℕ) (Val := Elt F) spec0 c
  q _ := fullShare
  owed _ := (K (F := F)).Otc c 0
  recorded _ := {p | (K (F := F)).lev (SparseCore.T c, p.1) p.2 ≤ 0}

/-- The body finds the fetched blocks in the inputs' buffers. -/
theorem before_mark (c : Dev nD) (t : Fin cfg0.N) (d : (cfg0.win 0).block.Idx → Elt F (cfg0.win 0).elt) :
    (dat V c).before 0 t d = markBlk V c t := by
  rw [(dat V c).before_fetched 0 t (fetch0_0 t)]; rfl

/-- The body finds the fetched features in the input's buffer. -/
theorem before_feat (c : Dev nD) (t : Fin cfg0.N) (d : (cfg0.win 1).block.Idx → Elt F (cfg0.win 1).elt) :
    (dat V c).before 1 t d = featBlk V c t := by
  rw [(dat V c).before_fetched 1 t (fetch0_1 t)]; rfl

/-- The body obligation at every point of the grid. -/
theorem body_obligation (c : Dev nD) : BodyObligation (dat V c) (defs₀ (F := F)) 𝒱₀ none Set.univ := fun t => by
  rw [bigSep_W0, bigSep_W0]
  rw [show (dat V c).Φ t.castSucc = (dat V c).Φ t.succ from rfl,
    show (dat V c).owesAt none t.succ = (dat V c).owesAt none t.castSucc from rfl]
  unfold owns
  have e0 : (st0_0 t).view.set = Finset.univ := (hstage0_0 ((cfg0.slots t 0).cast nbuf0_0)).set_eq_univ
  have e1 : (st0_1 t).view.set = Finset.univ := (hstage0_1 ((cfg0.slots t 1).cast nbuf0_1)).set_eq_univ
  have e2 : (st0_2 t).view.set = Finset.univ := (hstage0_2 ((cfg0.slots t 2).cast nbuf0_2)).set_eq_univ
  have e3 : (st0_3 t).view.set = Finset.univ := (hstage0_3 ((cfg0.slots t 3).cast nbuf0_3)).set_eq_univ
  simp only [e0, e1, e2, e3]
  iintro ⟨HΦ, Howes, ⟨%d0, %f0, %hf0, H0⟩, ⟨%d1, %f1, %hf1, H1⟩, ⟨%d2, %f2, -, H2⟩, ⟨%d3, %f3, -, H3⟩⟩
  rw [before_mark] at hf0
  rw [before_feat] at hf1
  iapply (pool_run c (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3)) f0 f1 f2 f3 Set.univ _)
  isplitl [H0]; · iexact H0
  isplitl [H1]; · iexact H1
  isplitl [H2]; · iexact H2
  isplitl [H3]; · iexact H3
  iintro ⟨H0, H1, ⟨%g2, %hg2, H2⟩, ⟨%g3, %hg3, H3⟩⟩
  rw [hf0] at hg2 hg3
  rw [hf1] at hg2
  isplitl [HΦ]; · iexact HΦ
  isplitl [Howes]; · iexact Howes
  isplitl [H0]; · iexists f0; isplitr; · ipureintro; exact hf0
                  iexact H0
  isplitl [H1]; · iexists f1; isplitr; · ipureintro; exact hf1
                  iexact H1
  isplitl [H2]; · iexists g2; isplitr; · ipureintro; exact hg2
                  iexact H2
  iexists g3; isplitr; · ipureintro; exact hg3
  iexact H3

/-! ## The region -/

/-- The call has no table of prefetched scalars: its one admissible contents. -/
abbrev adm : (p : Fin 1) → (pcfgs (F := F) p).Adm := fun p => (cfgs p).toPCfg_adm

/-- The proof data, for the one pipeline there is. -/
def pdats : (p : Fin 1) → (c : Dev nD) → Dat τ (Elt F) (HIx 1) ℕ UU ℕ (Pipeline.pin (pcfgs (F := F)) adm p) c
  | ⟨0, _⟩ => fun c => dat V c

/-- Nothing the TensorCore owes the SparseCores is at the index of the staging buffers' waits. -/
theorem Otc_none (c : Dev nD) (g : GSem nD τ sig) : (K (F := F)).Otc c 0 g (none : HIx 1) = 0 := by
  by_contra h
  have := SparseCore.Cfg.lev_of_Otc_pos (K := K (F := F)) (Nat.pos_of_ne_zero h)
  rw [SparseCore.Cfg.lev_none] at this
  omega

/-- A tensor value of the main thread, as a location of device `c`. -/
abbrev tcLoc (c : Dev nD) (b : Ref sig .tc) : Loc nD τ sig := (SparseCore.T c : Thread nD τ).loc b

/-- The arrays of the call's four windows, at the contents given. -/
abbrev poolBufs (c : Dev nD) (v1 : Buf (Elt F) (tcLoc c main_v1)) (a0 : Buf (Elt F) (tcLoc c main_arg0))
    (p0 : Buf (Elt F) (tcLoc c main_v2_0)) (p1 : Buf (Elt F) (tcLoc c main_v2_1)) : sProp 𝕄 :=
  iprop((tcLoc c main_v1 ↦{fullShare} v1) ∗ (tcLoc c main_arg0 ↦{fullShare} a0)
    ∗ (tcLoc c main_v2_0 ↦{fullShare} p0) ∗ (tcLoc c main_v2_1 ↦{fullShare} p1))

/-- The proof data's arrays are those four. -/
theorem arrays_four (c : Dev nD) (A : (w : Fin 4) → Buf (Elt F) ((c : Thread nD τ).loc (Pipeline.arrRef spec0 w))) :
    ((pdats V 0 c).arrays A : sProp 𝕄)
      = poolBufs c (A 0) (A 1) (A 2) (A 3) := by
  rw [Pipeline.arrays_eq (Pipeline.pin (pcfgs (F := F)) adm) (pdats V) 0 c (launch0).arr_whole ((pdats V 0 c).share_full fun _ => rfl) A]
  exact bigSep_W0 _

/-- What the TensorCore owes before the SparseCore call, its recorded waits low. -/
abbrev owesTc (c : Dev nD) : sProp 𝕄 :=
  iprop(∃ W, ⌜(K (F := F)).WBelow (SparseCore.T c) W 0⌝ ∗ owes (SparseCore.T c) ((K (F := F)).Otc c 0) W)

set_option backward.isDefEq.respectTransparency.types false in
/-- The pooling call between the four arrays and what the core owes. -/
def reg : Pipeline.RegionSeg (pcfgs (F := F)) adm (pdats V) none defs₀ 𝒱₀ (K (F := F)).L (K (F := F)).lev 0 where
  win := (launch0).win.to₀
  block_pos := (launch0).block_pos
  stage_whole := (launch0).stage_whole
  K := PEmpty
  osem k := k.elim
  ho := Pipeline.OwnSemFacts.none _
  hbody c := (body_obligation V c).loose
  hwaits c := Pipeline.cellsWaits_intro (Pipeline.pin (pcfgs (F := F)) adm) (pdats V) none 0 c fun w s t => (K (F := F)).mayWait_none _ (Otc_none c)
  pre c := iprop(poolBufs c (V c main_v1) (V c main_arg0) (V c main_v2_0) (V c main_v2_1) ∗ owesTc c)
  post c := iprop(poolBufs c (V c main_v1) (V c main_arg0) ((dat V c).arrAt 2 cfg0.N) ((dat V c).arrAt 3 cfg0.N) ∗ owesTc c)
  X _ := BI.emp
  Y _ := BI.emp
  Z _ := BI.emp
  hentry c := by
    rw [Pipeline.ownSems0_none, Pipeline.prefHeld_of_none _ rfl, arrays_four]
    iintro ⟨⟨Ha, %W, %hW, HO⟩, -, -⟩
    imodintro
    isplitl [Ha]; · iexact Ha
    isplitr; · iempintro
    isplitl [HO]
    · unfold Pipeline.Dat.owesAt Pipeline.owesWithin
      iexists W; isplitr; · ipureintro; exact fun p hp => Or.inl (hW p hp)
      iexact HO
    isplitr; · iempintro
    iempintro
  hin c := by
    rw [show (pdats V 0 c).Φ 0 = Pipeline.scopedRest (Ix := HIx 1) (Name := ℕ) (U := UU) (Lvl := ℕ) (Val := Elt F) spec0 c from rfl]
    iintro ⟨-, -, Hr⟩; iexact Hr
  hout c := by
    rw [Pipeline.ownSems0_none, show (pdats V 0 c).Φ (Fin.last _) = Pipeline.scopedRest (Ix := HIx 1) (Name := ℕ) (U := UU) (Lvl := ℕ) (Val := Elt F) spec0 c from rfl]
    iintro Hr
    isplitr; · iempintro
    isplitr; · iempintro
    iexact Hr
  hexit c := by
    rw [arrays_four, show (pdats V 0 c).arrAt 0 (Pipeline.pin (pcfgs (F := F)) adm 0).N = V c main_v1 from (dat V c).arrAt_in 0 rfl _,
      show (pdats V 0 c).arrAt 1 (Pipeline.pin (pcfgs (F := F)) adm 0).N = V c main_arg0 from (dat V c).arrAt_in 1 rfl _]
    iintro ⟨Ha, HO, -, -⟩
    imodintro
    isplitl [Ha]; · iexact Ha
    unfold Pipeline.Dat.owesAt Pipeline.owesWithin
    icases HO with ⟨%W, %hW, HO⟩
    iexists W; isplitr
    · ipureintro
      intro p hp
      rcases hW hp with h | ⟨w, s, rfl⟩
      · exact h
      · exact le_refl 0
    iexact HO

end Cert.Proof
-- ==== Proof.Pool.lean ====
/-
  The pooling call as a step of the launch's main thread.
-/
module

public import proofs.«01_k».proof.Proof.Region
public import proofs.«01_k».proof.Proof.Gen.KernelIdeal.Skeleton
public import Idealize.ShloMosaic.Lib.Pipeline.Value
public import Idealize.ShloMosaic.Lib.Pipeline.FrameBody
public import Idealize.ShloMosaic.Lib.VecWindow
public import Idealize.ShloMosaic.Lib.Pipeline.RegionArrays

@[expose] public section

noncomputable section

namespace Cert.Proof

open Cert.KernelIdeal Cert.KernelIdeal.Gen

open Idealize.ShloMosaic
open Idealize.ShloMosaic.TcCoe
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat BodyObligation)

variable {F : FTy → Type} [FloatOps F]

local notation "𝕄" => MT nD τ sig (HIx 1) (Elt F) ℕ UU ℕ

variable (V : (c : Dev nD) → (b : Ref sig .tc) → Buf (Elt F) ((c : Thread nD τ).loc b))

/-- The call as the pipeline library runs it, under the inner body table. -/
theorem wp_entry (c : Dev nD) (Φ : PUnit → sProp 𝕄) :
    iprop((iprop(boundary (SparseCore.T c) ∗ (reg V).post c) -∗ wp frame (wpE D 𝒱 (SparseCore.T c) none) Set.univ (.ret ⟨⟩) Φ)
        ∗ boundary (SparseCore.T c) ∗ (reg V).pre c ∗ levAts (K (F := F)).L (K (F := F)).lev
        ∗ Pipeline.cellsGhost (Pipeline.pin (pcfgs (F := F)) adm) EP 0 c ∗ Pipeline.toksInit (Pipeline.pin (pcfgs (F := F)) adm) EP 0 c)
      ⊢ wp frame (wpE (D (F := F)) 𝒱 (SparseCore.T c) none) Set.univ (.op (.customCall (Pipeline.entry 0) ()) fun _ => .ret ⟨⟩) Φ := by
  exact Pipeline.RegionSeg.wp (pcfgs (F := F)) adm (pdats V) none cellOf_inj EP defs₀ 𝒱₀ (K (F := F)).L (K (F := F)).lev (reg V) c none
    (fun _ h => nomatch h) (fun _ => .ret ⟨⟩) Φ

/-- The main thread's call is that one, lifted to the launch's labels. -/
theorem lift_entry :
    (SparseCore.liftProg (.op (.customCall (Pipeline.entry 0) ()) fun _ => .ret ⟨⟩ : Prog (TpuEff nD τ sig (Elt F) (ΛP (F := F)) .tc) PUnit)
      : Prog (TpuEff nD τ sig (Elt F) (SparseCore.Sig (ΛP (F := F)) 1) .tc) PUnit)
      = Prog.lift (.customCall (SparseCore.inner (Pipeline.entry 0)) ()) := rfl

/-- The pooling call inside the launch's main thread: from the boundary, its arrays, what the core owes, the levels
    and the launch's ghost state of its staging cells, to the boundary and the arrays at their final contents. -/
theorem wp_pool (c : Dev nD) (Φ : PUnit → sProp 𝕄) :
    iprop((iprop(boundary (SparseCore.T c) ∗ (reg V).post c) -∗ Φ ⟨⟩) ∗ boundary (SparseCore.T c) ∗ (reg V).pre c
        ∗ levAts (K (F := F)).L (K (F := F)).lev
        ∗ Pipeline.cellsGhost (Pipeline.pin (pcfgs (F := F)) adm) EP 0 c ∗ Pipeline.toksInit (Pipeline.pin (pcfgs (F := F)) adm) EP 0 c)
      ⊢ wp frame (wpE ((K (F := F)).defs D) 𝒱 (SparseCore.T c) none) Set.univ (Prog.lift (.customCall (SparseCore.inner (Pipeline.entry 0)) ())) Φ := by
  rw [← lift_entry]
  refine BI.Entails.trans ?_ ((K (F := F)).wp_liftProg D 𝒱 (SparseCore.T c) Set.univ none _ Φ)
  refine BI.Entails.trans ?_ (wp_entry V c Φ)
  rw [Idealize.SL.Sem.wp_ret]
  show (_ : sProp 𝕄) ⊢ (_ : sProp 𝕄)
  iintro ⟨Hk, Hrest⟩
  isplitl [Hk]
  · iintro H
    iapply Idealize.SL.BI.fupd_intro
    iapply Hk
    iexact H
  iexact Hrest

end Cert.Proof
-- ==== Proof.Host.lean ====
/-
  The host's operations round the two calls: the fourteen arrays as one held set, their contents before the pooling
  call, and the last three operations.
-/
module

public import proofs.«01_k».proof.Proof.Setup
public import Idealize.ShloMosaic.Lib.StableHlo.Run

@[expose] public section

noncomputable section

namespace Cert.Proof

open Cert.KernelIdeal Cert.KernelIdeal.Gen

open Idealize.ShloMosaic
open Idealize.ShloMosaic.TcCoe
open Idealize.ShloMosaic.SparseCore.Cfg (HIx Pay tileRest ownBufs ownSems0 ownCells ownRefs mem_ownCells mem_ownRefs)
open Idealize.ShloMosaic.StableHlo (held wp_hlo_within)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

variable (m : (ℓ : Loc nD τ sig) → Buf (Elt F) ℓ)

/-! ## The arrays -/

/-- A TensorCore array as an entry of the device's buffers. -/
abbrev dref (b : Ref sig .tc) : DevRef τ sig := Proc.devRef .tc b
/-- An array's location on a device's TensorCore. -/
abbrev tloc (d : Dev nD) (b : Ref sig .tc) : Loc nD τ sig := (SparseCore.T d).loc b

/-- The arrays of the program, none of them scoped. -/
abbrev S14 : Finset (DevRef τ sig) :=
  {dref main_arg0, dref main_arg1, dref main_arg2, dref main_c, dref main_call0_v0, dref main_call0_v1, dref main_v0, dref main_v1,
    dref main_v2_0, dref main_v2_1, dref main_v3, dref main_c_0, dref main_v4, dref main_v5}

omit [FloatOps F] in
/-- The arrays held together, one by one. -/
theorem held_S14 (d : Dev nD) (W : Valuation τ sig (Elt F)) :
    (held (SparseCore.T d) S14 W : sProp 𝕄)
      = iprop((tloc d main_arg0 ↦{fullShare} W (dref main_arg0)) ∗ (tloc d main_arg1 ↦{fullShare} W (dref main_arg1))
          ∗ (tloc d main_arg2 ↦{fullShare} W (dref main_arg2)) ∗ (tloc d main_c ↦{fullShare} W (dref main_c))
          ∗ (tloc d main_call0_v0 ↦{fullShare} W (dref main_call0_v0)) ∗ (tloc d main_call0_v1 ↦{fullShare} W (dref main_call0_v1))
          ∗ (tloc d main_v0 ↦{fullShare} W (dref main_v0)) ∗ (tloc d main_v1 ↦{fullShare} W (dref main_v1))
          ∗ (tloc d main_v2_0 ↦{fullShare} W (dref main_v2_0)) ∗ (tloc d main_v2_1 ↦{fullShare} W (dref main_v2_1))
          ∗ (tloc d main_v3 ↦{fullShare} W (dref main_v3)) ∗ (tloc d main_c_0 ↦{fullShare} W (dref main_c_0))
          ∗ (tloc d main_v4 ↦{fullShare} W (dref main_v4)) ∗ tloc d main_v5 ↦{fullShare} W (dref main_v5)) := by
  unfold held S14
  iterate 13 rw [SparseCore.bigSep_insert' (by decide)]
  rw [bigSep_singleton]

omit [FloatOps F] in
/-- The launch's arrays are the held set at the launch's contents. -/
theorem unscoped_held (d : Dev nD) :
    (unscopedBufs d (fun b => m ((SparseCore.T d).loc b)) : sProp 𝕄) = held (SparseCore.T d) S14 (fun b => m (d, b)) := by
  rw [held_S14]
  unfold unscopedBufs
  rw [show (Finset.univ.filter fun b : Ref sig .tc => ¬ b.isScoped)
    = {main_arg0, main_arg1, main_arg2, main_c, main_call0_v0, main_call0_v1, main_v0, main_v1, main_v2_0, main_v2_1, main_v3, main_c_0, main_v4, main_v5} by decide]
  iterate 13 rw [SparseCore.bigSep_insert' (by decide)]
  rw [bigSep_singleton]

/-! ## Before the pooling call -/

/-- The operations before the pooling call, in order. -/
abbrev ops1 : List (HloOp τ sig (Elt F)) :=
  [StableHlo.nullary main_c (constantI S_ 32 512#32),
   StableHlo.TRef.unary (.of main_c) main_call0.v0 id,
   StableHlo.TRef.unary main_call0.v0 main_call0.v1 (broadcastInDim S16x4096 ![] bcast_S_S16x4096),
   StableHlo.TRef.ternary (.of main_arg2) main_call0.v1 (.of main_arg1) main_call0.v2 select,
   StableHlo.reshape main_v0 main_v1 (rfl : (.i32 : EltTy) = .i32) shapeCasts_S16x4096_S16x1x4096]

/-- The operations after the SparseCore call, in order. -/
abbrev ops2 : List (HloOp τ sig (Elt F)) :=
  [StableHlo.nullary main_c_0 (constantI S_ 32 0#32),
   StableHlo.unary main_c_0 main_v4 (broadcastInDim S16x512 ![] bcast_S_S16x512 : (⟨S_, .i32⟩ : BufTy).Contents (Elt F) → (⟨S16x512, .i32⟩ : BufTy).Contents (Elt F)),
   StableHlo.binary main_v3 main_v4 main_v5 (cmpi .eq : (⟨S16x512, .i32⟩ : BufTy).Contents (Elt F) → (⟨S16x512, .i32⟩ : BufTy).Contents (Elt F) → (⟨S16x512, .i1⟩ : BufTy).Contents (Elt F))]

/-- The main thread: the first operations, the pooling call, the SparseCore call, the last operations. -/
theorem main_eq (d : Dev nD) :
    main (F := F) d = (StableHlo.seq ops1 >>= fun _ => Prog.lift (.customCall (SparseCore.inner (Pipeline.entry 0)) ()) >>= fun _ =>
      (sc (F := F)).run d 0 >>= fun _ => StableHlo.seq ops2 >>= fun _ => pure ⟨⟩) := by
  simp only [main, fn_where.body, StableHlo.seq, bind_assoc, pure_bind]

/-- The device's arrays before the pooling call. -/
def V1 (d : Dev nD) : Valuation τ sig (Elt F) := StableHlo.after ops1 (fun b => m (d, b))

/-- The marked bins: bin 512 where the token is masked out, its own bin elsewhere. -/
def marks (d : Dev nD) : IVec S16x4096 32 :=
  select (m (tloc d main_arg2)) (broadcastInDim S16x4096 ![] bcast_S_S16x4096 (id (constantI S_ 32 512#32) : IVec S_ 32)) (m (tloc d main_arg1))

/-- Before the pooling call the SparseCore call reads the marked bins. -/
theorem V1_v0 (d : Dev nD) : V1 m d (dref main_v0) = marks m d := by
  unfold V1
  after_results_simp
  rfl
/-- Before the pooling call the pooling call reads the marked bins with an axis of one. -/
theorem V1_v1 (d : Dev nD) : V1 m d (dref main_v1) = shapeCast S16x1x4096 (marks m d) shapeCasts_S16x4096_S16x1x4096 := by
  unfold V1
  after_results_simp
  rfl
/-- Before the pooling call the features are as launched. -/
theorem V1_a0 (d : Dev nD) : V1 m d (dref main_arg0) = m (tloc d main_arg0) := by
  unfold V1
  after_results_simp
/-- Before the pooling call the bins are as launched. -/
theorem V1_a1 (d : Dev nD) : V1 m d (dref main_arg1) = m (tloc d main_arg1) := by
  unfold V1
  after_results_simp
/-- Before the pooling call the padding mask is as launched. -/
theorem V1_a2 (d : Dev nD) : V1 m d (dref main_arg2) = m (tloc d main_arg2) := by
  unfold V1
  after_results_simp
/-- Before the pooling call the counts are as launched. -/
theorem V1_v3 (d : Dev nD) : V1 m d (dref main_v3) = m (tloc d main_v3) := by
  unfold V1
  after_results_simp

/-! ## After the SparseCore call -/

/-- The arrays that the last operations touch. -/
abbrev S4 : Finset (DevRef τ sig) := {dref main_v3, dref main_c_0, dref main_v4, dref main_v5}

omit [FloatOps F] in
/-- Those four arrays held together, one by one. -/
theorem held_S4 (d : Dev nD) (W : Valuation τ sig (Elt F)) :
    (held (SparseCore.T d) S4 W : sProp 𝕄)
      = iprop((tloc d main_v3 ↦{fullShare} W (dref main_v3)) ∗ (tloc d main_c_0 ↦{fullShare} W (dref main_c_0))
          ∗ (tloc d main_v4 ↦{fullShare} W (dref main_v4)) ∗ tloc d main_v5 ↦{fullShare} W (dref main_v5)) := by
  unfold held S4
  iterate 3 rw [SparseCore.bigSep_insert' (by decide)]
  rw [bigSep_singleton]

/-- The device's arrays after the SparseCore call, the counts at `g`. -/
def V2 (d : Dev nD) (g : Buf (Elt F) (tloc d main_v3)) : Valuation τ sig (Elt F) := Function.update (V1 m d) (dref main_v3) g

/-- The mask made from the counts: true where the count is zero. -/
def maskOf (g : IVec S16x512 32) : IVec S16x512 1 := cmpi .eq g (broadcastInDim S16x512 ![] bcast_S_S16x512 (constantI S_ 32 0#32))

/-- After the last operations the second result is the mask of the counts. -/
theorem after2_v5 (d : Dev nD) (g : Buf (Elt F) (tloc d main_v3)) : StableHlo.after ops2 (V2 m d g) (dref main_v5) = maskOf g := by
  after_results_simp
  unfold V2
  rw [Function.update_self]
  rfl

end Cert.Proof
-- ==== Proof.Launch.lean ====
/-
  The whole program: the main thread's run through the host's operations and the two calls, the launch's ghost state,
  and what the final memory holds.
-/
module

public import proofs.«01_k».proof.Proof.Call
public import proofs.«01_k».proof.Proof.Pool
public import proofs.«01_k».proof.Proof.Host
public import Idealize.ShloMosaic.Lib.SparseCore.Quiescent

@[expose] public section

noncomputable section

namespace Cert.Proof

open Cert.KernelIdeal Cert.KernelIdeal.Gen

open Idealize.ShloMosaic
open Idealize.ShloMosaic.TcCoe
open Idealize.ShloMosaic.SparseCore.Cfg (HIx Pay tileRest ownBufs ownSems0 ownCells ownRefs mem_ownCells mem_ownRefs)
open Idealize.ShloMosaic.StableHlo (held wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## The launch's ghost state -/

/-- The launch element: the handshakes' rounds, and the rounds of the pooling call's staging cells. -/
def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), 1))

omit [FloatOps F] in
/-- The launch element splits into the handshakes' part and the staging cells' part. -/
theorem ownU_split (a : UH) (b : UP) : (ownU ((a, (b, 1)) : UU) : sProp 𝕄) ⊢ iprop(BI.own (EH a) ∗ BI.own (EP b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

/-- What the launch deals device `d` for the pooling call: its staging cells' ghost state and their duties. -/
abbrev G (d : Dev nD) : sProp 𝕄 :=
  iprop(Pipeline.cellsGhost (Pipeline.pin (pcfgs (F := F)) adm) EP 0 d ∗ Pipeline.toksInit (Pipeline.pin (pcfgs (F := F)) adm) EP 0 d)

/-- The staging cells' part of the launch element deals every device its own. -/
theorem ghost_intro :
    (BI.own (EP (initOf (Pipeline.cells (Pipeline.pin (pcfgs (F := F)) adm) cellOf_inj) (Pipeline.launchToks (Pipeline.pin (pcfgs (F := F)) adm) cellOf_inj))) : sProp 𝕄)
      ⊢ iprop(|==> bigSep Finset.univ fun d : Dev nD => G (F := F) d) := by
  refine (Pipeline.fund_ghost (Pipeline.pin (pcfgs (F := F)) adm) EP cellOf_inj).trans ?_
  iintro >⟨Hc, Ht⟩
  imodintro
  rw [bigSep_sep',
    show (bigSep Finset.univ fun d : Dev nD => (Pipeline.cellsGhost (Pipeline.pin (pcfgs (F := F)) adm) EP 0 d : sProp 𝕄))
      = bigSep Finset.univ fun c : Dev nD => bigSep Finset.univ fun p => Pipeline.cellsGhost (Pipeline.pin (pcfgs (F := F)) adm) EP p c from
        bigSep_congr fun c _ => (bigSep_univ_of_subsingleton (Φ := fun p => (Pipeline.cellsGhost (Pipeline.pin (pcfgs (F := F)) adm) EP p c : sProp 𝕄)) (0 : Fin 1)).symm,
    show (bigSep Finset.univ fun d : Dev nD => (Pipeline.toksInit (Pipeline.pin (pcfgs (F := F)) adm) EP 0 d : sProp 𝕄))
      = bigSep Finset.univ fun c : Dev nD => bigSep Finset.univ fun p => Pipeline.toksInit (Pipeline.pin (pcfgs (F := F)) adm) EP p c from
        bigSep_congr fun c _ => (bigSep_univ_of_subsingleton (Φ := fun p => (Pipeline.toksInit (Pipeline.pin (pcfgs (F := F)) adm) EP p c : sProp 𝕄)) (0 : Fin 1)).symm]
  isplitl [Hc]; · iexact Hc
  iexact Ht

omit [FloatOps F] in
/-- Nothing for each of many is nothing. -/
theorem bigSep_emp' {I : Type} (s : Finset I) : (bigSep s fun _ => iprop(emp)) = (iprop(emp) : sProp 𝕄) := bigSep_emp_const s

/-- The launch's ghost state, dealt to the handshakes and the devices. -/
theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m (marks m)).x q thr) := by
  unfold u₀
  iintro Hu
  ihave H := (ownU_split _ _) $$ Hu
  icases H with ⟨HH, HP⟩
  imod (ghost_intro (F := F)) $$ HP with HG
  imodintro
  isplitl [HH]; · iexact HH
  isplitl [HG]; · iexact HG
  rw [show (bigSep Finset.univ fun thr : Thread nD τ => bigSep Finset.univ fun q : Fin 1 => (P m (marks m)).x q thr) = bigSep Finset.univ fun _ => iprop(emp) from
    bigSep_congr fun _ _ => bigSep_univ_of_subsingleton (0 : Fin 1), bigSep_emp']
  iempintro

/-! ## The main thread -/

/-- What the pooling call's arrays hold when it starts. -/
def VR (d : Dev nD) (b : Ref sig .tc) : Buf (Elt F) ((d : Thread nD τ).loc b) := V1 m d (dref b)

/-- The first result: what the pooling call leaves. -/
def pooled (d : Dev nD) : Buf (Elt F) (tloc d main_v2_0) := (dat (VR m) d).arrAt 2 cfg0.N

/-- What the pooling call starts from. -/
theorem reg_pre (V : (c : Dev nD) → (b : Ref sig .tc) → Buf (Elt F) ((c : Thread nD τ).loc b)) (d : Dev nD) :
    (reg V).pre d = iprop(poolBufs d (V d main_v1) (V d main_arg0) (V d main_v2_0) (V d main_v2_1) ∗ owesTc d) := rfl
/-- What the pooling call ends with. -/
theorem reg_post (V : (c : Dev nD) → (b : Ref sig .tc) → Buf (Elt F) ((c : Thread nD τ).loc b)) (d : Dev nD) :
    (reg V).post d = iprop(poolBufs d (V d main_v1) (V d main_arg0) ((dat V d).arrAt 2 cfg0.N) ((dat V d).arrAt 3 cfg0.N) ∗ owesTc d) := rfl

/-- What the main thread leaves: the arguments as launched, the two results. -/
abbrev FIN (d : Dev nD) : sProp 𝕄 :=
  iprop((tloc d main_arg0 ↦{fullShare} m (tloc d main_arg0)) ∗ (tloc d main_arg1 ↦{fullShare} m (tloc d main_arg1))
    ∗ (tloc d main_arg2 ↦{fullShare} m (tloc d main_arg2)) ∗ (tloc d main_v2_0 ↦{fullShare} pooled m d)
    ∗ ∃ g : IVec S16x512 32, ⌜∀ y, CntAt (marks m d) g y⌝ ∗ tloc d main_v5 ↦{fullShare} maskOf g)

/-- What the core owes, taken out of its state before the SparseCore call and put back. -/
theorem tcSt_owes (d : Dev nD) : ((K (F := F)).tcSt EH d 0 : sProp 𝕄) ⊢ iprop(owesTc d ∗ (owesTc d -∗ (K (F := F)).tcSt EH d 0)) := by
  unfold SparseCore.Cfg.tcSt
  rw [show 8 * SparseCore.Cfg.Blocks.fst 1 1 0 = 0 from rfl]
  iintro ⟨HO, Hr⟩
  isplitl [HO]; · iexact HO
  iintro HO
  isplitl [HO]; · iexact HO
  iexact Hr

/-- The host operations before the pooling call touch the fourteen buffers only. -/
theorem ops1_sub : ∀ op ∈ ops1 (F := F), op.bufs ⊆ S14 := by
  intro op hop
  simp only [List.mem_cons, List.not_mem_nil, or_false] at hop
  rcases hop with rfl | rfl | rfl | rfl | rfl
  · exact show ({dref main_c} : Finset (DevRef τ sig)) ⊆ S14 by decide
  · exact show ({dref main_c, dref main_call0_v0} : Finset (DevRef τ sig)) ⊆ S14 by decide
  · exact show ({dref main_call0_v0, dref main_call0_v1} : Finset (DevRef τ sig)) ⊆ S14 by decide
  · exact show ({dref main_arg2, dref main_call0_v1, dref main_arg1, dref main_v0} : Finset (DevRef τ sig)) ⊆ S14 by decide
  · exact show ({dref main_v0, dref main_v1} : Finset (DevRef τ sig)) ⊆ S14 by decide
/-- The host operations before the pooling call allocate nothing. -/
theorem ops1_fresh : ∀ op ∈ ops1 (F := F), op.fresh = ∅ := by
  intro op hop
  simp only [List.mem_cons, List.not_mem_nil, or_false] at hop
  rcases hop with rfl | rfl | rfl | rfl | rfl <;> rfl
/-- The host operations after the SparseCore call touch the four buffers only. -/
theorem ops2_sub : ∀ op ∈ ops2 (F := F), op.bufs ⊆ S4 := by
  intro op hop
  simp only [List.mem_cons, List.not_mem_nil, or_false] at hop
  rcases hop with rfl | rfl | rfl
  · exact show ({dref main_c_0} : Finset (DevRef τ sig)) ⊆ S4 by decide
  · exact show ({dref main_c_0, dref main_v4} : Finset (DevRef τ sig)) ⊆ S4 by decide
  · exact show ({dref main_v3, dref main_v4, dref main_v5} : Finset (DevRef τ sig)) ⊆ S4 by decide
/-- The host operations after the SparseCore call allocate nothing. -/
theorem ops2_fresh : ∀ op ∈ ops2 (F := F), op.fresh = ∅ := by
  intro op hop
  simp only [List.mem_cons, List.not_mem_nil, or_false] at hop
  rcases hop with rfl | rfl | rfl <;> rfl

/-- The main thread on device `d`: it leaves the arguments as launched, the pooled features and the mask. -/
theorem hmain (κ : GSem nD τ sig → ℕ) (d : Dev nD) :
    iprop((K (F := F)).ctx EH (P m (marks m)) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held, main_eq]
  iintro ⟨#Hctx, Hst, ⟨Hb, Hheld, Hts, -⟩, HGc, HGt⟩
  ihave #Hlev := (SparseCore.Cfg.ctx_levAts κ) $$ Hctx
  iapply (StableHlo.wp_seq 𝒱 none Set.univ d S14 _ ops1 ops1_sub ops1_fresh _) $$ [Hb Hheld]
  · isplitl [Hb] <;> iassumption
  iintro ⟨Hb, Hheld⟩
  ihave Hh := (Entails.of_eq (show (held (d.tc : Thread nD τ) S14 (StableHlo.after ops1 fun b => m (d, b)) : sProp 𝕄) = _ from held_S14 (F := F) d (V1 m d))) $$ Hheld
  icases Hh with ⟨Ha0, Ha1, Ha2, -, -, -, Hv0, Hv1, Hp0, Hp1, Hv3, Hc0, Hv4, Hv5⟩
  rw [wp_bind]
  -- the pooling call
  ihave HO := (tcSt_owes (F := F) d) $$ Hst
  icases HO with ⟨HO, Hst⟩
  iapply (wp_pool (VR m) d _)
  rw [reg_pre, reg_post]
  isplitr [Hb Ha0 Hv1 Hp0 Hp1 HO HGc HGt]
  swap
  · isplitl [Hb]; · iexact Hb
    isplitl [Ha0 Hv1 Hp0 Hp1 HO]
    · isplitr [HO]
      · isplitl [Hv1]; · iexact Hv1
        isplitl [Ha0]; · iexact Ha0
        isplitl [Hp0]; · iexact Hp0
        iexact Hp1
      iexact HO
    isplitr; · iexact Hlev
    isplitl [HGc]; · iexact HGc
    iexact HGt
  iintro ⟨Hb, ⟨-, Ha0, Hp0, -⟩, HO⟩
  ihave Hst := Hst $$ HO
  -- the SparseCore call
  rw [wp_bind]
  iapply ((K (F := F)).wp_run (D (F := F)) 𝒱 (EH := EH) (P := P m (marks m)) κ d 0)
  isplitr; · iexact Hctx
  isplitl [Hst]; · iexact Hst
  isplitl [Hv0 Hv3]
  · iapply (call_in m (marks m) d)
    rw [V1_v0, V1_v3]
    isplitl [Hv0]; · iexact Hv0
    iexact Hv3
  iintro ⟨Hst, Hdn⟩
  ihave Hdn' := (call_out m (marks m) d) $$ Hdn
  icases Hdn' with ⟨-, %g, %hg, Hv3⟩
  -- the last operations
  iapply (StableHlo.wp_seq 𝒱 none Set.univ d S4 _ ops2 ops2_sub ops2_fresh (V2 m d g)) $$ [Hb Hv3 Hc0 Hv4 Hv5]
  · isplitl [Hb]; · iexact Hb
    rw [held_S4]
    unfold V2
    rw [Function.update_self, Function.update_of_ne (show dref main_c_0 ≠ dref main_v3 by decide),
      Function.update_of_ne (show dref main_v4 ≠ dref main_v3 by decide), Function.update_of_ne (show dref main_v5 ≠ dref main_v3 by decide)]
    isplitl [Hv3]; · iexact Hv3
    isplitl [Hc0]; · iexact Hc0
    isplitl [Hv4]; · iexact Hv4
    iexact Hv5
  iintro ⟨Hb, Hheld⟩
  ihave Hh := (Entails.of_eq (held_S4 (F := F) d (StableHlo.after ops2 (V2 m d g)))) $$ Hheld
  icases Hh with ⟨-, -, -, Hv5⟩
  rw [after2_v5, wp_pure, V1_a1, V1_a2]
  imodintro
  isplitl [Hst]; · iexact Hst
  isplitr [Hb Hts]
  · isplitl [Ha0]
    · rw [show VR m d main_arg0 = m (tloc d main_arg0) from V1_a0 m d]
      iexact Ha0
    isplitl [Ha1]; · iexact Ha1
    isplitl [Ha2]; · iexact Ha2
    isplitl [Hp0]; · iexact Hp0
    iexists g
    isplitr; · ipureintro; exact hg
    iexact Hv5
  isplitl [Hb] <;> iassumption

/-! ## The program's run -/

/-- What the final memory holds on device `d`. -/
def fq (d : Dev nD) (s' : Phys nD τ sig (Elt F)) : Prop :=
  s'.mem.mem (tloc d main_arg0) = m (tloc d main_arg0) ∧ s'.mem.mem (tloc d main_arg1) = m (tloc d main_arg1)
    ∧ s'.mem.mem (tloc d main_arg2) = m (tloc d main_arg2) ∧ s'.mem.mem (tloc d main_v2_0) = pooled m d
    ∧ ∃ g : IVec S16x512 32, (∀ y, CntAt (marks m d) g y) ∧ s'.mem.mem (tloc d main_v5) = maskOf g

omit [FloatOps F] in
/-- The memory holds what a whole array's ownership says, and the ownership of the memory stays. -/
theorem read_whole (s' : Phys nD τ sig (Elt F)) (ℓ : Loc nD τ sig) (f : Buf (Elt F) ℓ) :
    (iprop((ℓ ↦{fullShare} f) ∗ SI s') : sProp 𝕄) ⊢ iprop(⌜s'.mem.mem ℓ = f⌝ ∗ SI s') := by
  iintro ⟨Hx, HSI⟩
  ihave H := (persistent_entails_right (SI_pointsTo_agree (st := s') (ℓ := ℓ) (I := Finset.univ) (q := fullShare) (f := f))) $$ [HSI Hx]
  · isplitl [HSI] <;> iassumption
  icases H with ⟨%hx, HSI, -⟩
  isplitr
  · ipureintro; exact funext fun i => hx i (Finset.mem_univ i)
  iexact HSI

/-- The main thread's arrays tell the final memory. -/
theorem hfin (d : Dev nD) (s' : Phys nD τ sig (Elt F)) : iprop(FIN m d ∗ SI s') ⊢ (⌜fq m d s'⌝ : sProp 𝕄) := by
  iintro ⟨⟨H0, H1, H2, H3, %g, %hg, H5⟩, HSI⟩
  ihave H := (read_whole s' _ _) $$ [H0 HSI]
  · isplitl [H0] <;> iassumption
  icases H with ⟨%h0, HSI⟩
  ihave H := (read_whole s' _ _) $$ [H1 HSI]
  · isplitl [H1] <;> iassumption
  icases H with ⟨%h1, HSI⟩
  ihave H := (read_whole s' _ _) $$ [H2 HSI]
  · isplitl [H2] <;> iassumption
  icases H with ⟨%h2, HSI⟩
  ihave H := (read_whole s' _ _) $$ [H3 HSI]
  · isplitl [H3] <;> iassumption
  icases H with ⟨%h3, HSI⟩
  ihave H := (read_whole s' _ _) $$ [H5 HSI]
  · isplitl [H5] <;> iassumption
  icases H with ⟨%h5, -⟩
  ipureintro
  exact ⟨h0, h1, h2, h3, g, hg, h5⟩

/-- The program's run, over any interpretation of the floats: every device ends with its arguments as launched, its
    results as `fq` says, and every semaphore at zero. -/
theorem run_main [∀ e, Nonempty (Elt F e)] :
    θ_run (defs (F := F)) (threads (F := F)) ⟨m, fun _ => 0, ρ⟩ (fun r =>
      (∀ d : Dev nD, r.2.mem (tloc d main_arg0) = m (tloc d main_arg0) ∧ r.2.mem (tloc d main_arg1) = m (tloc d main_arg1)
        ∧ r.2.mem (tloc d main_arg2) = m (tloc d main_arg2) ∧ r.2.mem (tloc d main_v2_0) = pooled m d
        ∧ ∃ g : IVec S16x512 32, (∀ y, CntAt (marks m d) g y) ∧ r.2.mem (tloc d main_v5) = maskOf g)
      ∧ r.2.sem = fun _ => 0) :=
  SparseCore.Cfg.θ_run_sc_quiescent (K := K (F := F)) (D := D (F := F)) (𝒱 := 𝒱) (EH := EH) (P := P m (marks m)) (A := ∅) facts v₀
    (fun q hq => match q with | 0 => nomatch hq)
    (fun q _ => match q with | 0 => tileObl m (marks m) facts)
    (fun q _ => match q with | 0 => SparseCore.Cfg.VecSplit.of_plain (vecSplit m (marks m)))
    m ρ main (G (F := F)) (FIN m) (u₀ (F := F)) (sep_elim_left.trans (hu₀ m)) (hmain m ρ) (fq m) (hfin m) _ (fun _ h hz => ⟨h, hz⟩)

end Cert.Proof
-- ==== Proof.Frames.lean ====
/-
  The frames: the kernel read at its words, the kernel over the extended reals, and the reference.
-/
module

public import proofs.«01_k».proof.Defs
public import proofs.«01_k».proof.Proof.Launch
public import proofs.«01_k».proof.Proof.Gen.Kernel
public import proofs.«01_k».proof.Proof.Gen.ReferenceIdeal.Run
public import proofs.«01_k».proof.Proof.Gen.Pre_sorted_rows
public import Idealize.ShloMosaic.Lib.Quiescent

@[expose] public section

noncomputable section

namespace Cert.Proof

open Idealize.ShloMosaic Idealize.SL.Sem

/-- The two printed programs have the same bodies: the pooling call's at every grid point, the search's at every task. -/
theorem bodies_eq {F : FTy → Type} [FloatOps F] : ∀ p l a, Cert.Kernel.defs₀ (F := F) p l a = Cert.KernelIdeal.defs₀ (F := F) p l a
  | .tc, 0, (_, _) => rfl
  | .tc, 1, _ => rfl
  | .scScalar _, 0, _ => rfl
  | .scScalar _, 1, _ => rfl
  | .scVector _ _, 0, _ => rfl
  | .scVector _ _, 1, _ => rfl

/-- So they have the same body tables. -/
theorem tables_eq {F : FTy → Type} [FloatOps F] : Cert.Kernel.defs (F := F) = Cert.KernelIdeal.defs (F := F) := by
  have h : Cert.Kernel.defs₀ (F := F) = Cert.KernelIdeal.defs₀ (F := F) := funext fun p => funext fun l => funext fun a => bodies_eq p l a
  unfold Cert.Kernel.defs Cert.KernelIdeal.defs
  rw [h]
  rfl

/-- The kernel at its words: it runs, its arguments end as launched, every semaphore at zero. -/
theorem frame_kernel : Cert.quiescent_Kernel := by
  intro m ρ _
  rw [tables_eq]
  exact (θ_run Cert.KernelIdeal.defs _ _).mono (fun _ h => ⟨fun c => ⟨(h.1 c).1, (h.1 c).2.1, (h.1 c).2.2.1⟩, h.2⟩) (run_main (F := Bits) m ρ)

/-- The kernel over the extended reals: the same run. -/
theorem frame_kernelIdeal : Cert.quiescent_KernelIdeal := fun m ρ _ =>
  (θ_run Cert.KernelIdeal.defs _ _).mono (fun _ h => ⟨fun c => ⟨(h.1 c).1, (h.1 c).2.1, (h.1 c).2.2.1⟩, h.2⟩) (run_main (F := Ideal) m ρ)

/-- The reference: it runs, its arguments end as launched; it has no semaphore. -/
theorem frame_reference : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

end Cert.Proof
-- ==== Proof.Mask.lean ====
/-
  Over a sorted row the two searches' answers agree exactly when no token of the row is in the bin.
-/
module

public import proofs.«01_k».proof.Proof.Search

@[expose] public section

namespace Cert.Proof

open Idealize.ShloMosaic Cert.KernelIdeal Cert.Proof.Search

/-- A row of marks in `0..512` that never decrease, its first two equal. -/
structure SortedRow (R : S4096.Idx → BitVec 32) : Prop where
  le : ∀ t, t < 4096 → (rowAt R t).toNat ≤ 512
  mono : ∀ t, t + 1 < 4096 → (rowAt R t).toNat ≤ (rowAt R (t + 1)).toNat
  two : rowAt R 0 = rowAt R 1

variable {R : S4096.Idx → BitVec 32}

/-- A sorted row does not decrease between any two positions. -/
theorem SortedRow.mono' (h : SortedRow R) {s t : ℕ} (hst : s ≤ t) (ht : t < 4096) : (rowAt R s).toNat ≤ (rowAt R t).toNat := by
  induction t, hst using Nat.le_induction with
  | base => exact Nat.le_refl _
  | succ t hst ih => exact Nat.le_trans (ih (by omega)) (h.mono t ht)

/-- Words up to `512` compare as signed words as they do as numbers. -/
theorem slt_small {v w : BitVec 32} (hv : v.toNat ≤ 512) (hw : w.toNat ≤ 512) : v.slt w = decide (v.toNat < w.toNat) := by
  rw [BitVec.slt, BitVec.toInt_eq_toNat_of_lt (by omega), BitVec.toInt_eq_toNat_of_lt (by omega)]
  simp

/-- Over a sorted row the search's answer splits the row into what is below the target and what is not. -/
theorem SortedRow.split (h : SortedRow R) {tgt r : BitVec 32} (hT : tgt.toNat ≤ 512) (hr : LB R tgt r) :
    r.toNat ≤ 4096 ∧ (∀ t, t < r.toNat → (rowAt R t).toNat < tgt.toNat)
      ∧ ∀ t, r.toNat ≤ t → t < 4096 → tgt.toNat ≤ (rowAt R t).toNat := by
  obtain ⟨h1, h2, h3⟩ := hr
  refine ⟨h1, fun t ht => ?_, fun t ht ht' => ?_⟩
  · rcases h2 with h2 | h2
    · omega
    · rw [slt_small (h.le _ (by omega)) hT, decide_eq_true_eq] at h2
      exact Nat.lt_of_le_of_lt (h.mono' (by omega) (by omega)) h2
  · have hm := h.mono' ht ht'
    rcases h3 with h3 | h3 | ⟨h3, h4⟩
    · omega
    · rw [slt_small (h.le _ (by omega)) hT, decide_eq_false_iff_not] at h3
      omega
    · rw [slt_small (h.le _ (by omega)) hT, decide_eq_false_iff_not, ← h.two] at h4
      rw [h3] at hm
      omega

/-- What the task stores for a bin is zero exactly when no token of the row is in it. -/
theorem SortedRow.cnt_zero (h : SortedRow R) {n : ℕ} (hn : n < 512) {c : BitVec 32} (hc : Cnt R (BitVec.ofNat 32 n) c) :
    c = 0#32 ↔ ¬ ∃ t, t < 4096 ∧ rowAt R t = BitVec.ofNat 32 n := by
  obtain ⟨r1, r0, h1, h0, rfl⟩ := hc
  have e0 : (BitVec.ofNat 32 n).toNat = n := by rw [BitVec.toNat_ofNat]; omega
  have e1 : (BitVec.ofNat 32 n + 1#32).toNat = n + 1 := by
    rw [BitVec.toNat_add, e0, BitVec.toNat_ofNat]; omega
  obtain ⟨a1, b1, c1⟩ := h.split (by omega) h1
  obtain ⟨a0, b0, c0⟩ := h.split (by omega) h0
  rw [e1] at b1 c1
  rw [e0] at b0 c0
  constructor
  · intro hz ⟨t, ht, e⟩
    have hr : r1 = r0 := by
      rw [← BitVec.sub_add_cancel r1 r0, hz, BitVec.zero_add]
    have et := congrArg BitVec.toNat e
    rw [e0] at et
    by_cases hlt : t < r0.toNat
    · have := b0 t hlt; omega
    · have := c1 t (by rw [hr]; omega) ht; omega
  · intro hne
    have hr : r1 = r0 := by
      refine BitVec.eq_of_toNat_eq (Nat.le_antisymm (Nat.le_of_not_lt fun hlt => ?_) (Nat.le_of_not_lt fun hlt => ?_))
      · refine hne ⟨r0.toNat, by omega, BitVec.eq_of_toNat_eq ?_⟩
        have := b1 _ hlt
        have := c0 r0.toNat (Nat.le_refl _) (by omega)
        omega
      · have := b0 _ hlt
        have := c1 r1.toNat (Nat.le_refl _) (by omega)
        omega
    rw [hr]; simp

end Cert.Proof
-- ==== Proof.Scatter.lean ====
/-
  The reference's two segment sums at the extended reals: each entry is the sum of the updates whose segment it is.
-/
module

public import proofs.«01_k».proof.ReferenceIdeal
public import proofs.«01_k».proof.Proof.Gen.ReferenceIdeal
public import Idealize.ShloMosaic.Lib.Routing.OpsPair
public import Idealize.ShloMosaic.Lib.Pointwise
public import Idealize.ShloMosaic.Lib.IdealHost

@[expose] public section

noncomputable section

namespace Cert.Proof.Ref

open Idealize.ShloMosaic Cert.ReferenceIdeal Cert.ReferenceIdeal.Gen

/-- An update of the counts lands at the segment its index word names. -/
theorem lands1 (idx : IVec S65536x1 32) (k : Fin 65536) (r : Fin 8208) :
    scatter_S8208_S65536x1_S65536_n_0_0_1.resultIdx? (ix1 k) idx = some (ix1 r) ↔ (idx (ix2 k 0)).toInt = (r.val : ℤ) := by
  rw [Routing.resultIdx?_eq_some]
  have hs : scatter_S8208_S65536x1_S65536_n_0_0_1.start (ix1 k) idx 0 = (idx (ix2 k 0)).toInt := by
    unfold ScatterDims.start
    rw [dif_pos (by decide)]
    refine congrArg (fun i => (idx i).toInt) (funext fun b => Fin.ext ?_)
    match b with
    | ⟨0, _⟩ => rfl
    | ⟨1, _⟩ => rfl
  have hw : scatter_S8208_S65536x1_S65536_n_0_0_1.window (ix1 k) 0 = 0 := rfl
  constructor
  · intro h
    have := h 0
    rw [hs, hw] at this
    simpa using this
  · intro h a
    match a with
    | ⟨0, _⟩ =>
      show scatter_S8208_S65536x1_S65536_n_0_0_1.start (ix1 k) idx 0 + (scatter_S8208_S65536x1_S65536_n_0_0_1.window (ix1 k) 0 : ℤ) = _
      rw [hs, hw]
      simpa using h

/-- An update of the sums lands at the segment its row's index word names, in its own column. -/
theorem lands2 (idx : IVec S65536x1 32) (k : Fin 65536) (c : Fin 512) (r : Fin 8208) (h : Fin 512) :
    scatter_S8208x512_S65536x1_S65536x512_1_0_0_1.resultIdx? (ix2 k c) idx = some (ix2 r h)
      ↔ (idx (ix2 k 0)).toInt = (r.val : ℤ) ∧ c = h := by
  rw [Routing.resultIdx?_eq_some]
  have hs : scatter_S8208x512_S65536x1_S65536x512_1_0_0_1.start (ix2 k c) idx 0 = (idx (ix2 k 0)).toInt := by
    unfold ScatterDims.start
    rw [dif_pos (by decide)]
    refine congrArg (fun i => (idx i).toInt) (funext fun b => Fin.ext ?_)
    match b with
    | ⟨0, _⟩ => rfl
    | ⟨1, _⟩ => rfl
  have hs1 : scatter_S8208x512_S65536x1_S65536x512_1_0_0_1.start (ix2 k c) idx 1 = 0 := rfl
  have hw : scatter_S8208x512_S65536x1_S65536x512_1_0_0_1.window (ix2 k c) 0 = 0 := rfl
  have hw1 : scatter_S8208x512_S65536x1_S65536x512_1_0_0_1.window (ix2 k c) 1 = c.val := rfl
  constructor
  · intro H
    have h0 := H 0
    have h1 := H 1
    rw [hs, hw] at h0
    rw [hs1, hw1] at h1
    refine ⟨by simpa using h0, Fin.ext ?_⟩
    change (0 : ℤ) + (c.val : ℤ) = (h.val : ℤ) at h1
    omega
  · rintro ⟨h0, rfl⟩ a
    match a with
    | ⟨0, _⟩ =>
      show scatter_S8208x512_S65536x1_S65536x512_1_0_0_1.start (ix2 k c) idx 0 + (scatter_S8208x512_S65536x1_S65536x512_1_0_0_1.window (ix2 k c) 0 : ℤ) = _
      rw [hs, hw]
      simpa using h0
    | ⟨1, _⟩ =>
      show scatter_S8208x512_S65536x1_S65536x512_1_0_0_1.start (ix2 k c) idx 1 + (scatter_S8208x512_S65536x1_S65536x512_1_0_0_1.window (ix2 k c) 1 : ℤ) = (c.val : ℤ)
      rw [hs1, hw1]
      omega

/-- The counts' scatter at a segment: the operand there and the updates of that segment. -/
theorem scatter1 (x : FVec Ideal S8208 .f32) (idx : IVec S65536x1 32) (u : FVec Ideal S65536 .f32) (r : Fin 8208) :
    Host.scatterAdd scatter_S8208_S65536x1_S65536_n_0_0_1 x idx u (ix1 r)
      = x (ix1 r) + ∑ k : Fin 65536, if (idx (ix2 k 0)).toInt = (r.val : ℤ) then u (ix1 k) else 0 := by
  show Ideal.hostScatterAdd scatter_S8208_S65536x1_S65536_n_0_0_1 x idx u (ix1 r) = _
  unfold Ideal.hostScatterAdd
  refine congrArg (x (ix1 r) + ·) ?_
  rw [Finset.sum_filter, sum_idx1]
  exact Finset.sum_congr rfl fun k _ => by simp only [lands1]

/-- The sums' scatter at a segment and a column: the operand there and that column of the updates of that segment. -/
theorem scatter2 (x : FVec Ideal S8208x512 .f32) (idx : IVec S65536x1 32) (u : FVec Ideal S65536x512 .f32) (r : Fin 8208) (h : Fin 512) :
    Host.scatterAdd scatter_S8208x512_S65536x1_S65536x512_1_0_0_1 x idx u (ix2 r h)
      = x (ix2 r h) + ∑ k : Fin 65536, if (idx (ix2 k 0)).toInt = (r.val : ℤ) then u (ix2 k h) else 0 := by
  show Ideal.hostScatterAdd scatter_S8208x512_S65536x1_S65536x512_1_0_0_1 x idx u (ix2 r h) = _
  unfold Ideal.hostScatterAdd
  refine congrArg (x (ix2 r h) + ·) ?_
  rw [Finset.sum_filter, sum_idx2]
  refine Finset.sum_congr rfl fun k _ => ?_
  simp only [lands2]
  by_cases e : (idx (ix2 k 0)).toInt = (r.val : ℤ)
  · simp [e]
  · simp [e]

end Cert.Proof.Ref
-- ==== Proof.Payload.lean ====
/-
  The pooling call's body at the extended reals: what it writes at a bin and a feature, as sums over the tokens.
-/
module

public import proofs.«01_k».proof.Proof.Gen.KernelIdeal.Skeleton
public import Idealize.ShloMosaic.Lib.Pointwise
public import Idealize.ShloMosaic.Lib.IdealHost

@[expose] public section

noncomputable section

namespace Cert.Proof

open Idealize.ShloMosaic Cert.KernelIdeal Cert.KernelIdeal.Gen

/-- One where the word is `n`, zero elsewhere: an entry of the one-hot matrix. -/
def hot (w : BitVec 32) (n : ℕ) : EReal := if w = BitVec.ofNat 32 n then 1 else 0

/-- The body's entry of the one-hot matrix, a comparison's bit converted to a float, is that number. -/
theorem sitofp_hot (w : BitVec 32) (n : ℕ) :
    (FloatOps.sitofp FTy.f32 (BitVec.setWidth 32 (IntOp.cmpi CmpIPredicate.eq w (BitVec.ofNat 32 n))) : Ideal .f32) = hot w n := by
  unfold hot IntOp.cmpi
  by_cases h : w = BitVec.ofNat 32 n
  · rw [if_pos h]; simp [h, FloatOps.sitofp]
  · rw [if_neg h, show (w == BitVec.ofNat 32 n) = false from beq_eq_false_iff_ne.2 h]; simp [FloatOps.sitofp]

/-- The number of tokens of a row whose word is `n`, as an extended real. -/
def cntAt (row : Fin 4096 → BitVec 32) (n : ℕ) : EReal := ∑ t, hot (row t) n

/-- The sum of a column over the tokens of the row whose word is `n`. -/
def sumAt (row : Fin 4096 → BitVec 32) (col : Fin 4096 → EReal) (n : ℕ) : EReal := ∑ t, hot (row t) n * col t

/-- The mean of a feature over the tokens of a bin, from the array of marks and the array of features. -/
def meanOf (X : IVec S16x4096 32) (A : FVec Ideal S16x4096x512 .f32) (b : Fin 16) (n h : Fin 512) : EReal :=
  Ideal.div (sumAt (fun t => X (ix2 b t)) (fun t => A (ix3 b t h)) n.val) (max (cntAt (fun t => X (ix2 b t)) n.val) 1)

/-- What the body writes for bin `n` and feature `h`: the sum of the feature over the bin's tokens, by their number,
    or by one where there is none. -/
theorem pay4_at (v0 : Vec Ideal S1x1x4096 .i32) (v9 : Vec Ideal S1x4096x512 .f32) (n h : Fin 512) :
    k0_pay4 v0 v9 (ix3 0 n h)
      = Ideal.div (sumAt (fun t => v0 (ix3 0 0 t)) (fun t => v9 (ix3 0 t h)) n.val) (max (cntAt (fun t => v0 (ix3 0 0 t)) n.val) 1) := by
  pointwise [k0_pay4, k0_pay2, k0_pay1]
  simp only [sitofp_hot]
  rfl

end Cert.Proof
-- ==== Proof.RefValue.lean ====
/-
  The reference's segment sums read bin by bin: the number of a bin's tokens and the sums of their features.
-/
module

public import proofs.«01_k».proof.Proof.Scatter
public import proofs.«01_k».proof.Proof.Payload

@[expose] public section

noncomputable section

namespace Cert.Proof.Ref

open Idealize.ShloMosaic Cert.ReferenceIdeal Cert.ReferenceIdeal.Gen

/-- The reference's segment of every token: the batch row's base, plus the token's mark. -/
def flatOf (X : IVec S16x4096 32) : IVec S65536x1 32 :=
  broadcastInDim S65536x1 ![0] bcast_S65536_S65536x1_0 (shapeCast S65536 (addi (broadcastInDim S16x4096 ![0, 1] bcast_S16x1_S16x4096_0_1
    (muli (broadcastInDim S16x1 ![0] bcast_S16_S16x1_0 (iotaInDim S16 32 0)) (broadcastInDim S16x1 ![] bcast_S_S16x1 (constantI S_ 32 513#32)))) X)
    shapeCasts_S16x4096_S65536)

/-- The position of a token in the flattened arrays. -/
def pos (b : Fin 16) (t : Fin 4096) : Fin 65536 := ⟨b.val * 4096 + t.val, by omega⟩

/-- A sum over the flattened tokens is a sum over the batch rows and their tokens. -/
theorem sum_pos (f : Fin 65536 → EReal) : ∑ k, f k = ∑ b : Fin 16, ∑ t : Fin 4096, f (pos b t) := by
  rw [← Fintype.sum_prod_type', ← (finProdFinEquiv (m := 16) (n := 4096)).sum_comp f]
  refine Finset.sum_congr rfl fun p _ => congrArg f (Fin.ext ?_)
  show p.2.val + 4096 * p.1.val = p.1.val * 4096 + p.2.val
  omega

/-- A token's segment word. -/
theorem flat_at (X : IVec S16x4096 32) (b : Fin 16) (t : Fin 4096) :
    flatOf X (ix2 (pos b t) 0) = BitVec.ofNat 32 b.val * 513#32 + X (ix2 b t) := by
  unfold flatOf pos
  pointwise
  rfl

/-- Where every mark is in `0..512`, a token is of segment `513 b + n` exactly when it is in row `b` and its mark is `n`. -/
theorem seg_iff (b b' : Fin 16) (n : ℕ) (hn : n ≤ 512) (w : BitVec 32) (h0 : (0#32).sle w = true) (h1 : w.sle 512#32 = true) :
    (BitVec.ofNat 32 b'.val * 513#32 + w).toInt = ((b.val * 513 + n : ℕ) : ℤ) ↔ b' = b ∧ w = BitVec.ofNat 32 n := by
  have hw : w.toNat ≤ 512 := by
    have : w.toNat < 2 ^ 32 := w.isLt
    simp only [BitVec.sle, decide_eq_true_eq, BitVec.toInt_eq_toNat_cond] at h0 h1
    simp at h0 h1
    split at h0 <;> omega
  have hb := b.isLt; have hb' := b'.isLt
  have e : (BitVec.ofNat 32 b'.val * 513#32 + w).toNat = b'.val * 513 + w.toNat := by
    simp only [BitVec.toNat_add, BitVec.toNat_mul, BitVec.toNat_ofNat]
    omega
  have ei : (BitVec.ofNat 32 b'.val * 513#32 + w).toInt = ((b'.val * 513 + w.toNat : ℕ) : ℤ) := by
    rw [BitVec.toInt_eq_toNat_of_lt (by omega), e]
  rw [ei]
  constructor
  · intro h
    refine ⟨Fin.ext (by omega), BitVec.eq_of_toNat_eq ?_⟩
    rw [BitVec.toNat_ofNat]; omega
  · rintro ⟨rfl, rfl⟩
    rw [BitVec.toNat_ofNat, Nat.mod_eq_of_lt (by omega)]

/-- Every mark is in `0..512`, compared as signed words. -/
def InRange (X : IVec S16x4096 32) : Prop := ∀ i, (0#32).sle (X i) = true ∧ (X i).sle 512#32 = true

/-- A sum over the tokens of one segment is the sum over the tokens of its row that have its mark. -/
theorem sum_seg (X : IVec S16x4096 32) (hX : InRange X) (b : Fin 16) (n : ℕ) (hn : n ≤ 512) (f : Fin 65536 → EReal) :
    (∑ k : Fin 65536, if (flatOf X (ix2 k 0)).toInt = ((b.val * 513 + n : ℕ) : ℤ) then f k else 0)
      = ∑ t : Fin 4096, hot (X (ix2 b t)) n * f (pos b t) := by
  rw [sum_pos, Finset.sum_eq_single b]
  · refine Finset.sum_congr rfl fun t _ => ?_
    rw [flat_at, hot]
    by_cases e : X (ix2 b t) = BitVec.ofNat 32 n
    · rw [if_pos ((seg_iff b b n hn _ (hX _).1 (hX _).2).2 ⟨rfl, e⟩), if_pos e, one_mul]
    · rw [if_neg fun h => e ((seg_iff b b n hn _ (hX _).1 (hX _).2).1 h).2, if_neg e, zero_mul]
  · intro b' _ hne
    refine Finset.sum_eq_zero fun t _ => ?_
    rw [flat_at, if_neg fun h => hne ((seg_iff b b' n hn _ (hX _).1 (hX _).2).1 h).1]
  · intro h; exact absurd (Finset.mem_univ b) h

/-- The reference's counts. -/
def cnts (X : IVec S16x4096 32) : FVec Ideal S8208 .f32 :=
  Host.scatterAdd scatter_S8208_S65536x1_S65536_n_0_0_1 (broadcastInDim S8208 ![] bcast_S_S8208 (constant S_ .f32 0x00000000#32)) (flatOf X)
    (broadcastInDim S65536 ![] bcast_S_S65536 (constant S_ .f32 0x3F800000#32))

/-- The reference's sums. -/
def sums (X : IVec S16x4096 32) (A : FVec Ideal S16x4096x512 .f32) : FVec Ideal S8208x512 .f32 :=
  Host.scatterAdd scatter_S8208x512_S65536x1_S65536x512_1_0_0_1 (broadcastInDim S8208x512 ![] bcast_S_S8208x512 (constant S_ .f32 0x00000000#32)) (flatOf X)
    (shapeCast S65536x512 A shapeCasts_S16x4096x512_S65536x512)

/-- The segment of a row and a bin. -/
def seg (b : Fin 16) (n : Fin 512) : Fin 8208 := ⟨b.val * 513 + n.val, by omega⟩

/-- The counts at a row's bin: the number of the row's tokens with that mark. -/
theorem cnts_at (X : IVec S16x4096 32) (hX : InRange X) (b : Fin 16) (n : Fin 512) :
    cnts X (ix1 (seg b n)) = cntAt (fun t => X (ix2 b t)) n.val := by
  unfold cnts
  rw [scatter1]
  refine (congrArg _ (sum_seg X hX b n.val (by omega) fun k => _)).trans ?_
  unfold cntAt
  pointwise

/-- The sums at a row's bin and a column: the sum of the column over the row's tokens with that mark. -/
theorem sums_at (X : IVec S16x4096 32) (A : FVec Ideal S16x4096x512 .f32) (hX : InRange X) (b : Fin 16) (n h : Fin 512) :
    sums X A (ix2 (seg b n) h) = sumAt (fun t => X (ix2 b t)) (fun t => A (ix3 b t h)) n.val := by
  unfold sums
  rw [scatter2]
  refine (congrArg _ (sum_seg X hX b n.val (by omega) fun k => _)).trans ?_
  unfold sumAt pos
  pointwise

/-! ## The results -/

/-- A bin's number of tokens is positive exactly when a token has its mark. -/
theorem cntAt_pos (row : Fin 4096 → BitVec 32) (n : ℕ) : 0 < cntAt row n ↔ ∃ t, row t = BitVec.ofNat 32 n := by
  have h0 : ∀ t, 0 ≤ hot (row t) n := fun t => by unfold hot; split <;> simp
  constructor
  · intro h
    by_contra hne
    refine absurd h (not_lt.2 (le_of_eq (Finset.sum_eq_zero fun t _ => ?_)))
    exact if_neg fun e => hne ⟨t, e⟩
  · rintro ⟨t, e⟩
    refine lt_of_lt_of_le (b := hot (row t) n) ?_ (Finset.single_le_sum (f := fun t => hot (row t) n) (fun t _ => h0 t) (Finset.mem_univ t))
    rw [hot, if_pos e]; simp

/-- A bin with no token has the sum zero in every column. -/
theorem sumAt_none (row : Fin 4096 → BitVec 32) (col : Fin 4096 → EReal) (n : ℕ) (h : ¬ ∃ t, row t = BitVec.ofNat 32 n) : sumAt row col n = 0 :=
  Finset.sum_eq_zero fun t _ => by rw [hot, if_neg fun e => h ⟨t, e⟩, zero_mul]

/-- The reference's first result: where a bin has tokens, the sums by the counts, and zero elsewhere. -/
def refPooled (X : IVec S16x4096 32) (A : FVec Ideal S16x4096x512 .f32) : FVec Ideal S16x512x512 .f32 :=
  extractStridedSlice S16x512x512 ![0, 0, 0] (shapeCast S16x513x512 (select (broadcastInDim S8208x512 ![0, 1] bcast_S8208x1_S8208x512_0_1
    (cmpf .ogt (broadcastInDim S8208x1 ![0] bcast_S8208_S8208x1_0 (cnts X)) (broadcastInDim S8208x1 ![] bcast_S_S8208x1 (constant S_ .f32 0x00000000#32))))
    (Host.divf (sums X A) (broadcastInDim S8208x512 ![0, 1] bcast_S8208x1_S8208x512_0_1 (broadcastInDim S8208x1 ![0] bcast_S8208_S8208x1_0
      (maximumf (cnts X) (broadcastInDim S8208 ![] bcast_S_S8208 (constant S_ .f32 0x3F800000#32))))))
    (broadcastInDim S8208x512 ![] bcast_S_S8208x512 (id (constant S_ .f32 0x00000000#32)))) shapeCasts_S8208x512_S16x513x512)
    slices_S16x513x512_S16x512x512_0_0_0

/-- The reference's second result: whether a bin has no token. -/
def refMask (X : IVec S16x4096 32) : IVec S16x512 1 :=
  noti (cmpf .ogt (extractStridedSlice S16x512 ![0, 0] (shapeCast S16x513 (cnts X) shapeCasts_S8208_S16x513) slices_S16x513_S16x512_0_0)
    (broadcastInDim S16x512 ![] bcast_S_S16x512 (constant S_ .f32 0x00000000#32)))

/-- The reference's first result is the mean that the kernel computes. -/
theorem refPooled_at (X : IVec S16x4096 32) (A : FVec Ideal S16x4096x512 .f32) (hX : InRange X) (b : Fin 16) (n h : Fin 512) :
    refPooled X A (ix3 b n h) = meanOf X A b n h := by
  have e1 := cnts_at X hX b n
  have e2 := sums_at X A hX b n h
  unfold seg at e1 e2
  unfold refPooled meanOf
  generalize cnts X = C at e1 ⊢
  generalize sums X A = S at e2 ⊢
  pointwise
  rw [e1, e2]
  by_cases hc : ∃ t, X (ix2 b t) = BitVec.ofNat 32 n.val
  · rw [if_pos ((cntAt_pos _ _).2 hc)]
  · have hc0 : cntAt (fun t => X (ix2 b t)) n.val = 0 := Finset.sum_eq_zero fun t _ => if_neg fun e => hc ⟨t, e⟩
    rw [if_neg fun h => hc ((cntAt_pos _ _).1 h), sumAt_none _ _ _ hc, hc0]
    show Ideal.ofBits .f32 0x00000000#32 = _
    rw [Ideal.ofBits_zero_f32, max_eq_right zero_le_one]
    simp [Ideal.div]

/-- The reference's second result is set exactly where no token of the row has the bin's mark. -/
theorem refMask_at (X : IVec S16x4096 32) (hX : InRange X) (b : Fin 16) (n : Fin 512) :
    refMask X (ix2 b n) = 1#1 ↔ ¬ ∃ t, X (ix2 b t) = BitVec.ofNat 32 n.val := by
  have e1 := cnts_at X hX b n
  unfold seg at e1
  unfold refMask
  generalize cnts X = C at e1 ⊢
  pointwise
  rw [e1, ← cntAt_pos (fun t => X (ix2 b t)) n.val]
  by_cases hc : 0 < cntAt (fun t => X (ix2 b t)) n.val <;> simp [hc]

end Cert.Proof.Ref
-- ==== Proof.PoolValue.lean ====
/-
  What the pooling call leaves in its result array, at a batch row, a bin and a feature.
-/
module

public import proofs.«01_k».proof.Proof.Launch
public import proofs.«01_k».proof.Proof.Payload
public import Idealize.ShloMosaic.Lib.Pipeline.ValueKit.Geometry

@[expose] public section

noncomputable section

namespace Cert.Proof

open Idealize.ShloMosaic Cert.KernelIdeal Cert.KernelIdeal.Gen
open Idealize.ShloMosaic.Pipeline
open Idealize.ShloMosaic.TcCoe

/-- The block of marks that a grid point works on is its own batch row's. -/
theorem idx0 : ∀ t : Fin cfg0.N, win0_0.index t = ![t.val, 0, 0] := (by decide +kernel : ∀ t : Fin grid0.N, _)
/-- The same of the features. -/
theorem idx1 : ∀ t : Fin cfg0.N, win0_1.index t = ![t.val, 0, 0] := (by decide +kernel : ∀ t : Fin grid0.N, _)
/-- The same of the means. -/
theorem idx2 : ∀ t : Fin cfg0.N, win0_2.index t = ![t.val, 0, 0] := (by decide +kernel : ∀ t : Fin grid0.N, _)

/-- The block of marks of a grid point holds that batch row's marks. -/
theorem markBlk_at (m : (ℓ : Loc nD τ sig) → Buf (Elt Ideal) ℓ) (d : Dev nD) (t : Fin cfg0.N) (k : Fin 4096) :
    (markBlk (VR m) d t : Vec Ideal S1x1x4096 .i32) (ix3 0 0 k) = marks m d (ix2 (t.cast N_0) k) := by
  unfold markBlk
  blk_simp
  rw [show VR m d main_v1 = _ from V1_v1 m d]
  have e : (win0_0.blk t).view.emb (ix3 0 0 k) = (ix3 (t.cast N_0) 0 k : S16x1x4096.Idx) := by blk_ext [idx0]; rfl
  rw [e]
  pointwise

/-- The block of features of a grid point holds that batch row's features. -/
theorem featBlk_at (m : (ℓ : Loc nD τ sig) → Buf (Elt Ideal) ℓ) (d : Dev nD) (t : Fin cfg0.N) (k : Fin 4096) (h : Fin 512) :
    (featBlk (VR m) d t : Vec Ideal S1x4096x512 .f32) (ix3 0 k h) = m (tloc d main_arg0) (ix3 (t.cast N_0) k h) := by
  unfold featBlk
  blk_simp
  rw [show VR m d main_arg0 = _ from V1_a0 m d]
  have e : (win0_1.blk t).view.emb (ix3 0 k h) = (ix3 (t.cast N_0) k h : S16x4096x512.Idx) := by blk_ext [idx1]; rfl
  rw [e]

/-- The pooling call's result array holds the means. -/
theorem pooled_eq (m : (ℓ : Loc nD τ sig) → Buf (Elt Ideal) ℓ) (d : Dev nD) :
    pooled m d = fun y : S16x512x512.Idx => meanOf (marks m d) (m (tloc d main_arg0)) (y 0) (y 1) (y 2) := by
  refine (dat (VR m) d).arrAt_eq_of_covers 2 _ (by decide +kernel) fun t hf y => ?_
  blk_simp
  show k0_pay4 (markBlk (VR m) d t) (featBlk (VR m) d t) y = _
  obtain ⟨n, h, rfl⟩ : ∃ n h : Fin 512, y = (ix3 0 n h : S1x512x512.Idx) :=
    ⟨y 1, y 2, (eq_ix3 (n0 := 1) (n1 := 512) (n2 := 512) y).trans (by rw [Subsingleton.elim (α := Fin 1) (y 0) 0])⟩
  have e : (win0_2.blk t).view.emb (ix3 0 n h) = (ix3 (t.cast N_0) n h : S16x512x512.Idx) := by blk_ext [idx2]; rfl
  rw [e]
  refine (pay4_at _ _ n h).trans ?_
  have eA : (fun k => (featBlk (VR m) d t : Vec Ideal S1x4096x512 .f32) (ix3 0 k h)) = fun k => m (tloc d main_arg0) (ix3 (t.cast N_0) k h) :=
    funext fun k => featBlk_at m d t k h
  have eX : (fun k => (markBlk (VR m) d t : Vec Ideal S1x1x4096 .i32) (ix3 0 0 k)) = fun k => marks m d (ix2 (t.cast N_0) k) :=
    funext fun k => markBlk_at m d t k
  rw [eA, eX]
  rfl

end Cert.Proof
-- ==== Proof.Marks.lean ====
/-
  What the precondition says of the marks, and the mask that the kernel computes from its counts.
-/
module

public import proofs.«01_k».proof.Proof.Mask
public import proofs.«01_k».proof.Proof.RefValue
public import proofs.«01_k».proof.Proof.PoolValue
public import proofs.«01_k».proof.Proof.Gen.Pre_sorted_rows
public import Idealize.ShloMosaic.Lib.Pointwise

@[expose] public section

noncomputable section

namespace Cert.Proof

open Idealize.ShloMosaic Cert.KernelIdeal Cert.KernelIdeal.Gen Cert.Proof.Search

/-- What the precondition says of the marks: in `0..512`, never decreasing along a row, each row's first two equal. -/
structure Good (X : IVec S16x4096 32) : Prop where
  range : Ref.InRange X
  mono : ∀ (b : Fin 16) (t : ℕ) (h : t + 1 < 4096), (X (ix2 b ⟨t, by omega⟩)).sle (X (ix2 b ⟨t + 1, h⟩)) = true
  two : ∀ b : Fin 16, X (ix2 b 0) = X (ix2 b 1)

/-- A mark in `0..512` as a signed word is at most `512` as a number. -/
theorem toNat_le {w : BitVec 32} (h0 : (0#32).sle w = true) (h1 : w.sle 512#32 = true) : w.toNat ≤ 512 := by
  have : w.toNat < 2 ^ 32 := w.isLt
  simp only [BitVec.sle, decide_eq_true_eq, BitVec.toInt_eq_toNat_cond] at h0 h1
  simp at h0 h1
  split at h0 <;> omega

/-- A row of the marks at a position. -/
theorem rowAt_rowOf (X : IVec S16x4096 32) (b : Fin 16) (t : ℕ) (h : t < 4096) : rowAt (rowOf X b) t = X (ix2 b ⟨t, h⟩) := by
  rw [rowAt, dif_pos h, rowOf]
  refine congrArg X (funext fun a => ?_)
  match a with
  | ⟨0, _⟩ => rfl
  | ⟨1, _⟩ => rfl

/-- Under the precondition every row of the marks is a sorted row. -/
theorem Good.row {X : IVec S16x4096 32} (h : Good X) (b : Fin 16) : SortedRow (rowOf X b) where
  le t ht := by
    rw [rowAt_rowOf X b t ht]
    exact toNat_le (h.range _).1 (h.range _).2
  mono t ht := by
    rw [rowAt_rowOf X b t (by omega), rowAt_rowOf X b (t + 1) ht]
    have h0 := toNat_le (h.range (ix2 b ⟨t, by omega⟩)).1 (h.range _).2
    have h1 := toNat_le (h.range (ix2 b ⟨t + 1, ht⟩)).1 (h.range _).2
    have h2 := h.mono b t ht
    rw [BitVec.sle, decide_eq_true_eq, BitVec.toInt_eq_toNat_of_lt (by omega), BitVec.toInt_eq_toNat_of_lt (by omega)] at h2
    omega
  two := by
    rw [rowAt_rowOf X b 0 (by omega), rowAt_rowOf X b 1 (by omega)]
    exact h.two b

/-- A comparison's bit is set where the comparison holds. -/
theorem bit_true {p : Bool} (h : BitVec.ofBool p = 1#1) : p = true := by
  cases p
  · exact absurd h (by decide)
  · rfl

/-- The precondition's four comparisons give that. -/
theorem good_of_pre (A : FVec Ideal S16x4096x512 .f32) (T : IVec S16x4096 32) (P : IVec S16x4096 1)
    (h1 : (Cert.Pre_sorted_rows.fn (F := Ideal) A T P).1 = fun _ => 1#1)
    (h2 : (Cert.Pre_sorted_rows.fn (F := Ideal) A T P).2.1 = fun _ => 1#1)
    (h3 : (Cert.Pre_sorted_rows.fn (F := Ideal) A T P).2.2.1 = fun _ => 1#1)
    (h4 : (Cert.Pre_sorted_rows.fn (F := Ideal) A T P).2.2.2 = fun _ => 1#1) :
    Good (select P (broadcastInDim S16x4096 ![] bcast_S_S16x4096 (id (constantI S_ 32 512#32) : IVec S_ 32)) T) := by
  have e : Cert.Pre_sorted_rows.fn_where (F := Ideal) P (constantI _ 32 512#32) T
      = select P (broadcastInDim S16x4096 ![] bcast_S_S16x4096 (id (constantI S_ 32 512#32) : IVec S_ 32)) T := rfl
  unfold Cert.Pre_sorted_rows.fn at h1 h2 h3 h4
  simp only [e] at h1 h2 h3 h4
  generalize select P (broadcastInDim S16x4096 ![] bcast_S_S16x4096 (id (constantI S_ 32 512#32) : IVec S_ 32)) T = X at h1 h2 h3 h4 ⊢
  refine ⟨fun i => ⟨?_, ?_⟩, fun b t ht => ?_, fun b => ?_⟩
  · have := congrFun h1 i
    pointwise at this
    exact bit_true this
  · have := congrFun h2 i
    pointwise at this
    exact bit_true this
  · have := congrFun h3 (ix2 b ⟨t, by omega⟩)
    pointwise at this
    rw [show (⟨t + 1, ht⟩ : Fin 4096) = ⟨1 + t, by omega⟩ from Fin.ext (Nat.add_comm t 1)]
    exact bit_true this
  · have := congrFun h4 (ix1 b)
    pointwise at this
    exact eq_of_beq (bit_true this)

/-- The kernel's mask from its counts is the reference's. -/
theorem maskOf_eq (X : IVec S16x4096 32) (hX : Good X) (g : IVec S16x512 32) (hg : ∀ y, CntAt X g y) : maskOf g = Ref.refMask X := by
  funext y
  obtain ⟨b, n, rfl⟩ : ∃ (b : Fin 16) (n : Fin 512), y = ix2 b n := ⟨y 0, y 1, eq_ix2 y⟩
  have h1 := (hX.row b).cnt_zero n.isLt (hg (ix2 b n))
  have h2 : (¬ ∃ t, t < 4096 ∧ rowAt (rowOf X b) t = BitVec.ofNat 32 n.val) ↔ ¬ ∃ t, X (ix2 b t) = BitVec.ofNat 32 n.val :=
    not_congr ⟨fun ⟨t, ht, e⟩ => ⟨⟨t, ht⟩, by rw [← rowAt_rowOf X b t ht]; exact e⟩,
      fun ⟨t, e⟩ => ⟨t.val, t.isLt, by rw [rowAt_rowOf X b t.val t.isLt]; exact e⟩⟩
  have h3 := Ref.refMask_at X hX.range b n
  have h4 : maskOf g (ix2 b n) = 1#1 ↔ g (ix2 b n) = 0#32 := by
    unfold maskOf
    pointwise
    exact ⟨fun h => eq_of_beq (bit_true h), fun h => by rw [h]; rfl⟩
  have h5 := h4.trans (h1.trans (h2.trans h3.symm))
  generalize maskOf g (ix2 b n) = p at h5 ⊢
  generalize Ref.refMask X (ix2 b n) = q at h5 ⊢
  rcases BitVec.eq_zero_or_eq_one p with rfl | rfl <;> rcases BitVec.eq_zero_or_eq_one q with rfl | rfl <;> simp_all

end Cert.Proof
-- ==== Proof.Algebraic.lean ====
/-
  The kernel over the extended reals and the reference end with the same two results.
-/
module

public import proofs.«01_k».proof.Proof.Frames
public import proofs.«01_k».proof.Proof.Marks

@[expose] public section

noncomputable section

namespace Cert.Proof

open Idealize.ShloMosaic Idealize.SL.Sem

/-- Under the precondition the marks that the kernel computes are good. -/
theorem good_marks (m : (ℓ : Loc Cert.KernelIdeal.nD Cert.KernelIdeal.τ Cert.KernelIdeal.sig) → Buf (Elt Ideal) ℓ) (h : Cert.Pre_KernelIdeal m)
    (d : Dev Cert.KernelIdeal.nD) : Good (marks m d) :=
  good_of_pre _ _ _ (h d).1 (h d).2.1 (h d).2.2.1 (h d).2.2.2

/-- The kernel's means are the reference's first result. -/
theorem pooled_ref (m : (ℓ : Loc Cert.KernelIdeal.nD Cert.KernelIdeal.τ Cert.KernelIdeal.sig) → Buf (Elt Ideal) ℓ) (h : Cert.Pre_KernelIdeal m)
    (d : Dev Cert.KernelIdeal.nD) : pooled m d = Ref.refPooled (marks m d) (m (tloc d Cert.KernelIdeal.main_arg0)) := by
  rw [pooled_eq]
  funext y
  obtain ⟨b, n, k, rfl⟩ : ∃ (b : Fin 16) (n k : Fin 512), y = ix3 b n k := ⟨y 0, y 1, y 2, eq_ix3 y⟩
  exact (Ref.refPooled_at _ _ (good_marks m h d).range b n k).symm

/-- From memories that agree on the arguments, the two programs end with equal means and equal masks. -/
theorem algebraic : Cert.algebraic_KernelIdeal_ReferenceIdeal := by
  intro m g m' g' hpre hargs
  refine ⟨fun c => Ref.refPooled (marks m c) (m (tloc c Cert.KernelIdeal.main_arg0)), fun c => Ref.refMask (marks m c), ?_, ?_⟩
  · refine (θ_run Cert.KernelIdeal.defs _ _).mono (fun _ h c => ?_) (run_main (F := Ideal) m g)
    obtain ⟨h0, h1, h2, h3, f, hf, h4⟩ := h.1 c
    exact ⟨h3.trans (pooled_ref m hpre c), h4.trans (maskOf_eq _ (good_marks m hpre c) f hf), h0, h1, h2⟩
  · refine (θ_run Cert.ReferenceIdeal.defs _ _).mono (fun _ h c => ?_) (Cert.ReferenceIdeal.Value.run (F := Ideal) m' g')
    obtain ⟨h0, h1, hr⟩ := h c
    obtain ⟨a0, a1, a2⟩ := hargs c
    refine ⟨h0.trans ?_, h1.trans ?_, hr⟩
    · rw [a0, a1, a2]; rfl
    · rw [a1, a2]; rfl

end Cert.Proof
-- ==== Proof.lean ====
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.ReferenceIdeal
public import proofs.«01_k».proof.Proof.Gen.ReferenceIdeal.Run
public import proofs.«01_k».proof.Proof.Gen.Pre_sorted_rows
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem

/-- Everything claimed. -/
theorem claim : Cert.Claim := ⟨Cert.Kernel.Gen.facts, Cert.KernelIdeal.Gen.facts, Cert.ReferenceIdeal.Gen.facts, Cert.Pre_sorted_rows.Gen.facts,
  frame_kernel, frame_kernelIdeal, frame_reference, fun m ρ _ => frame_reference m ρ trivial, trivial, algebraic⟩

end Cert.Proof

end
